-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_target_in_range_row_max_finite [hPre_target_in_range_row_max_finite : Cert.Pre_target_in_range_row_max_finite.Facts] (m : (ℓ : Loc Cert.KernelIdeal.nD Cert.KernelIdeal.τ Cert.KernelIdeal.sig) → Buf (Elt Ideal) ℓ) : Prop :=
  ∀ c : Dev Cert.KernelIdeal.nD,
    (Cert.Pre_target_in_range_row_max_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_target_in_range_row_max_finite [hPre_target_in_range_row_max_finite : Cert.Pre_target_in_range_row_max_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_target_in_range_row_max_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_target_in_range_row_max_finite [hKernelIdeal : Cert.KernelIdeal.Facts] [hPre_target_in_range_row_max_finite : Cert.Pre_target_in_range_row_max_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_target_in_range_row_max_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_target_in_range_row_max_finite [hReferenceIdeal : Cert.ReferenceIdeal.Facts] [hPre_target_in_range_row_max_finite : Cert.Pre_target_in_range_row_max_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_target_in_range_row_max_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_target_in_range_row_max_finite [hKernelIdeal : Cert.KernelIdeal.Facts] [hReferenceIdeal : Cert.ReferenceIdeal.Facts] [hPre_target_in_range_row_max_finite : Cert.Pre_target_in_range_row_max_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_target_in_range_row_max_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_target_in_range_row_max_finite : Cert.Pre_target_in_range_row_max_finite.Facts),
    quiescent_Kernel (hKernel := hKernel)
    ∧ quiescent_KernelIdeal (hKernelIdeal := hKernelIdeal)
    ∧ quiescent_KernelIdeal_pre_target_in_range_row_max_finite (hKernelIdeal := hKernelIdeal) (hPre_target_in_range_row_max_finite := hPre_target_in_range_row_max_finite)
    ∧ quiescent_ReferenceIdeal (hReferenceIdeal := hReferenceIdeal)
    ∧ quiescent_ReferenceIdeal_pre_target_in_range_row_max_finite (hReferenceIdeal := hReferenceIdeal) (hPre_target_in_range_row_max_finite := hPre_target_in_range_row_max_finite)
    ∧ preserves_Kernel_KernelIdeal
    ∧ algebraic_KernelIdeal_ReferenceIdeal_pre_target_in_range_row_max_finite (hKernelIdeal := hKernelIdeal) (hReferenceIdeal := hReferenceIdeal) (hPre_target_in_range_row_max_finite := hPre_target_in_range_row_max_finite)
-- ==== Pre_target_in_range_row_max_finite.lean ====
abbrev S1x2048 : Shape := ⟨2, ![1, 2048]⟩
abbrev S2048x100000 : Shape := ⟨2, ![2048, 100000]⟩
abbrev S2048 : Shape := ⟨1, ![2048]⟩
abbrev S_ : Shape := ⟨0, ![]⟩

class Facts : Prop where
  shapeCasts_S1x2048_S2048 : S1x2048.ShapeCasts S2048
  reducesTo_S2048x100000_S2048_d1 : S2048x100000.ReducesTo [1] S2048
  h_S_ : 0 < S_.numel
  bcast_S_S2048 : S_.BroadcastsInDim S2048 (![] : Fin 0 → Fin S2048.rank)

variable [Facts]

def fn {F : FTy → Type} [FloatOps F] (main_arg0 : IVec S1x2048 32) (main_arg1 : FVec F S2048x100000 .f32) : IVec S2048 1 :=
  let main_v0 : IVec S2048 32 := shapeCast S2048 main_arg0 shapeCasts_S1x2048_S2048
  let main_cst : FVec F S_ .f32 := constant S_ .f32 0xFF800000#32
  let main_v1 : FVec F S2048 .f32 := (fun x v => Host.reduce FloatOps.maximumf x v reducesTo_S2048x100000_S2048_d1 h_S_) main_arg1 main_cst
  let main_c : IVec S_ 32 := constantI S_ 32 0#32
  let main_v2 : IVec S2048 32 := broadcastInDim S2048 ![] bcast_S_S2048 main_c
  let main_v3 : IVec S2048 1 := cmpi .sge main_v0 main_v2
  let main_c_0 : IVec S_ 32 := constantI S_ 32 100000#32
  let main_v4 : IVec S2048 32 := broadcastInDim S2048 ![] bcast_S_S2048 main_c_0
  let main_v5 : IVec S2048 1 := cmpi .slt main_v0 main_v4
  let main_v6 : IVec S2048 1 := andi main_v3 main_v5
  let main_cst_1 : FVec F S_ .f32 := constant S_ .f32 0xFF800000#32
  let main_v7 : FVec F S2048 .f32 := broadcastInDim S2048 ![] bcast_S_S2048 main_cst_1
  let main_v8 : IVec S2048 1 := cmpf .ogt main_v1 main_v7
  let main_v9 : IVec S2048 1 := andi main_v6 main_v8
  let main_cst_2 : FVec F S_ .f32 := constant S_ .f32 0x7F800000#32
  let main_v10 : FVec F S2048 .f32 := broadcastInDim S2048 ![] bcast_S_S2048 main_cst_2
  let main_v11 : IVec S2048 1 := cmpf .olt main_v1 main_v10
  let main_v12 : IVec S2048 1 := andi main_v9 main_v11
  main_v12
-- ==== Kernel.lean ====
abbrev S1x2048 : Shape := ⟨2, ![1, 2048]⟩
abbrev S2048x100000 : Shape := ⟨2, ![2048, 100000]⟩
abbrev S2048x1 : Shape := ⟨2, ![2048, 1]⟩
abbrev S256x1 : Shape := ⟨2, ![256, 1]⟩
abbrev S256x8192 : Shape := ⟨2, ![256, 8192]⟩
abbrev S256 : Shape := ⟨1, ![256]⟩
abbrev S_ : Shape := ⟨0, ![]⟩

abbrev nBuf : Space → Nat
  | .hbm => 8
  | .vmem => 9
  | .smem => 0
  | _ => 0

abbrev bufTy : (tb : Table) → Fin (tcTables nBuf tb) → BufTy
  | .hbm, ⟨0, _⟩ => ⟨S1x2048, .i32⟩
  | .hbm, ⟨1, _⟩ => ⟨S2048x100000, .f32⟩
  | .hbm, ⟨2, _⟩ => ⟨S2048x1, .i32⟩
  | .hbm, ⟨3, _⟩ => ⟨S2048x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S256x1, .i32⟩
  | .local _ .vmem, ⟨1, _⟩ => ⟨S256x1, .i32⟩
  | .local _ .vmem, ⟨2, _⟩ => ⟨S256x8192, .f32⟩
  | .local _ .vmem, ⟨3, _⟩ => ⟨S256x8192, .f32⟩
  | .local _ .vmem, ⟨4, _⟩ => ⟨S256x1, .f32⟩
  | .local _ .vmem, ⟨5, _⟩ => ⟨S256x1, .f32⟩
  | .local _ .vmem, ⟨6, _⟩ => ⟨S256x1, .f32⟩
  | .local _ .vmem, ⟨7, _⟩ => ⟨S256x1, .f32⟩
  | .local _ .vmem, ⟨8, _⟩ => ⟨S256x1, .f32⟩
  | _, _ => ⟨S1x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 13], ![false, false]⟩

def k0_cond4 (i : grid0.Coords) : BitVec 1 :=
  let arg1 : BitVec 32 := BitVec.ofNat 32 (i 1).val
  let c12_i32_0 : BitVec 32 := 12#32
  let v3 : BitVec 1 := Scalar.cmpi .eq arg1 c12_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S1x2048 : Shape := ⟨2, ![1, 2048]⟩
abbrev S2048x100000 : Shape := ⟨2, ![2048, 100000]⟩
abbrev S_ : Shape := ⟨0, ![]⟩
abbrev S2048 : Shape := ⟨1, ![2048]⟩
abbrev S2048x1 : Shape := ⟨2, ![2048, 1]⟩
abbrev S2048x1x1 : Shape := ⟨3, ![2048, 1, 1]⟩
abbrev S1 : Shape := ⟨1, ![1]⟩
abbrev S1x1x1 : Shape := ⟨3, ![1, 1, 1]⟩

abbrev nBuf : Space → Nat
  | .hbm => 47
  | .vmem => 0
  | .smem => 0
  | _ => 0

abbrev bufTy : (tb : Table) → Fin (tcTables nBuf tb) → BufTy
  | .hbm, ⟨0, _⟩ => ⟨S1x2048, .i32⟩
  | .hbm, ⟨1, _⟩ => ⟨S2048x100000, .f32⟩
  | .hbm, ⟨2, _⟩ => ⟨S_, .f32⟩
  | .hbm, ⟨3, _⟩ => ⟨S2048, .f32⟩
  | .hbm, ⟨4, _⟩ => ⟨S_, .f32⟩
  | .hbm, ⟨5, _⟩ => ⟨S2048, .f32⟩
  | .hbm, ⟨6, _⟩ => ⟨S2048, .f32⟩
  | .hbm, ⟨7, _⟩ => ⟨S2048x1, .f32⟩
  | .hbm, ⟨8, _⟩ => ⟨S2048x100000, .f32⟩
  | .hbm, ⟨9, _⟩ => ⟨S2048x100000, .f32⟩
  | .hbm, ⟨10, _⟩ => ⟨S2048x100000, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S2048x1, .f32⟩
  | .hbm, ⟨15, _⟩ => ⟨S2048x100000, .f32⟩
  | .hbm, ⟨16, _⟩ => ⟨S2048x100000, .f32⟩
  | .hbm, ⟨17, _⟩ => ⟨S2048, .i32⟩
  | .hbm, ⟨18, _⟩ => ⟨S2048x1, .i32⟩
  | .hbm, ⟨19, _⟩ => ⟨S_, .i32⟩
  | .hbm, ⟨20, _⟩ => ⟨S2048x1, .i32⟩
  | .hbm, ⟨21, _⟩ => ⟨S2048x1, .i1⟩
  | .hbm, ⟨22, _⟩ => ⟨S_, .i32⟩
  | .hbm, ⟨23, _⟩ => ⟨S2048x1, .i32⟩
  | .hbm, ⟨24, _⟩ => ⟨S2048x1, .i32⟩
  | .hbm, ⟨25, _⟩ => ⟨S2048x1, .i32⟩
  | .hbm, ⟨26, _⟩ => ⟨S2048x1x1, .i32⟩
  | .hbm, ⟨27, _⟩ => ⟨S1, .i32⟩
  | .hbm, ⟨28, _⟩ => ⟨S_, .i32⟩
  | .hbm, ⟨29, _⟩ => ⟨S2048x1x1, .i32⟩
  | .hbm, ⟨30, _⟩ => ⟨S2048x1x1, .i1⟩
  | .hbm, ⟨31, _⟩ => ⟨S1x1x1, .i32⟩
  | .hbm, ⟨32, _⟩ => ⟨S2048x1x1, .i32⟩
  | .hbm, ⟨33, _⟩ => ⟨S2048x1x1, .i1⟩
  | .hbm, ⟨34, _⟩ => ⟨S2048x1x1, .i1⟩
  | .hbm, ⟨35, _⟩ => ⟨S_, .i1⟩
  | .hbm, ⟨36, _⟩ => ⟨S2048x1, .i1⟩
  | .hbm, ⟨37, _⟩ => ⟨S2048x1, .f32⟩
  | .hbm, ⟨38, _⟩ => ⟨S_, .f32⟩
  | .hbm, ⟨39, _⟩ => ⟨S2048x1, .f32⟩
  | .hbm, ⟨40, _⟩ => ⟨S2048x1, .f32⟩
  | .hbm, ⟨41, _⟩ => ⟨S2048, .f32⟩
  | .hbm, ⟨42, _⟩ => ⟨S2048, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | _, _ => ⟨S1x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_call1_c : Ref sig .tc := ⟨.hbm, 19, rfl⟩
abbrev main_call1_v0 : Ref sig .tc := ⟨.hbm, 20, rfl⟩
abbrev main_call1_v1 : Ref sig .tc := ⟨.hbm, 21, rfl⟩
abbrev main_call1_c_0 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_c_1 : Ref sig .tc := ⟨.hbm, 27, rfl⟩
abbrev main_call1_c_2 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_call1_c_3 : Ref sig .tc := ⟨.hbm, 35, rfl⟩
abbrev main_call1_v12 : Ref sig .tc := ⟨.hbm, 36, rfl⟩
abbrev main_call1_v13 : Ref sig .tc := ⟨.hbm, 37, rfl⟩
abbrev main_call1_cst : Ref sig .tc := ⟨.hbm, 38, rfl⟩
abbrev main_call1_v14 : Ref sig .tc := ⟨.hbm, 39, rfl⟩
abbrev main_v3 : Ref sig .tc := ⟨.hbm, 40, rfl⟩
abbrev main_v4 : Ref sig .tc := ⟨.hbm, 41, rfl⟩
abbrev main_v5 : Ref sig .tc := ⟨.hbm, 42, rfl⟩
abbrev main_cst : Ref sig .tc := ⟨.hbm, 43, rfl⟩
abbrev main_v6 : Ref sig .tc := ⟨.hbm, 44, rfl⟩
abbrev main_cst_0 : Ref sig .tc := ⟨.hbm, 45, rfl⟩
abbrev main_v7 : Ref sig .tc := ⟨.hbm, 46, rfl⟩

abbrev nD : Nat := 1
abbrev τ : Topo := Topo.v7x

variable {F : FTy → Type} [FloatOps F]
-- ==== Proof.KernelIdealRun.Cases.lean ====
/-
  The kernel body of `KernelIdeal`, run on whole buffers in each of its three cases: the first column block of a row
  block (the scratch is set), a middle one (the scratch is updated), and the last one (columns past the array's end are
  masked, the scratch is updated, and the row block's result is stored). Each triple says what every buffer holds
  afterwards, as the values the body's own lines compute.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-! ## The body's branch conditions, by the column block `j` -/

/-- `j < 12`, as the body tests it. -/
abbrev isMain (i : grid0.Coords) : Prop := (Scalar.cmpi .ne (Scalar.extui (Scalar.cmpi .slt (BitVec.ofNat 32 (i 1).val) 12#32)) 0#32) = 1#1
/-- `j = 0`, as the body tests it. -/
abbrev isFirst (i : grid0.Coords) : Prop := (Scalar.cmpi .ne (Scalar.extui (Scalar.cmpi .eq (BitVec.ofNat 32 (i 1).val) 0#32)) 0#32) = 1#1
/-- `j > 0`, as the body tests it. -/
abbrev isLater (i : grid0.Coords) : Prop := (Scalar.cmpi .ne (Scalar.extui (Scalar.cmpi .sgt (BitVec.ofNat 32 (i 1).val) 0#32)) 0#32) = 1#1
/-- `j = 12`, as the body tests it. -/
abbrev isTail (i : grid0.Coords) : Prop := k0_cond4 i = 1#1

/-- Point `t` is in column block `t % 13`. -/
theorem col_val (t : Fin cfg0.N) : (grid0.coords t 1).val = t.val % 13 :=
  (by
    have e : (grid0.coords t 1).val = t.val / 1 % 13 := Pipeline.Grid.coords_val t 1 (by decide) rfl
    rw [e, Nat.div_one])

theorem isMain_iff (t : Fin cfg0.N) : isMain (grid0.coords t) ↔ t.val % 13 ≤ 11 :=
  (by decide +kernel : ∀ t : Fin grid0.N, isMain (grid0.coords t) ↔ t.val % 13 ≤ 11) t
theorem isFirst_iff (t : Fin cfg0.N) : isFirst (grid0.coords t) ↔ t.val % 13 = 0 :=
  (by decide +kernel : ∀ t : Fin grid0.N, isFirst (grid0.coords t) ↔ t.val % 13 = 0) t
theorem isLater_iff (t : Fin cfg0.N) : isLater (grid0.coords t) ↔ 1 ≤ t.val % 13 :=
  (by decide +kernel : ∀ t : Fin grid0.N, isLater (grid0.coords t) ↔ 1 ≤ t.val % 13) t
theorem isTail_iff (t : Fin cfg0.N) : isTail (grid0.coords t) ↔ t.val % 13 = 12 :=
  (by decide +kernel : ∀ t : Fin grid0.N, isTail (grid0.coords t) ↔ t.val % 13 = 12) t

/-! ## Loads and stores of a whole buffer -/

/-- A store of a whole column leaves the stored column. -/
theorem read_store (v : View sig .tc .vmem S256x1 .f32) (f : v.ty.Contents (Elt F)) (inb) (w : Vec F S256x1 .f32)
    (L : List (View.Piece (Elt F) S256x1 .f32)) :
    v.read (Elt F) (v.writes (Elt F) f (⟨Rect.unit ![0, 0] ![256, 1] inb, w⟩ :: L)) = w :=
  View.read_writes_full v f inb w L
/-- A load of a whole column after a store of one reads the stored column. -/
theorem load_store (v : View sig .tc .vmem S256x1 .f32) (inb inb') (w : Vec F S256x1 .f32)
    (L : List (View.Piece (Elt F) S256x1 .f32)) :
    v.readCov (⟨Rect.unit ![0, 0] ![256, 1] inb, w⟩ :: L) (Rect.unit (s := S256x1) ![0, 0] ![256, 1] inb').toLoadRect = w :=
  View.readAt_writes_full v _ inb' inb w L
/-- A load of a whole column reads what the buffer holds, -/
theorem load_col {e : EltTy} {m : Memref sig .tc .vmem S256x1 e} (h : m.IsWhole) (inb) (x : Vec F S256x1 e) :
    m.view.readAt (Elt F) (Rect.unit (s := S256x1) ![0, 0] ![256, 1] inb).toLoadRect (h.unread x) = x :=
  (View.readAt_full m.view (h.unread x) inb).trans (h.read_unread x)
/-- and so does one of a whole block. -/
theorem load_block {m : Memref sig .tc .vmem S256x8192 .f32} (h : m.IsWhole) (inb) (x : Vec F S256x8192 .f32) :
    m.view.readAt (Elt F) (Rect.unit (s := S256x8192) ![0, 0] ![256, 8192] inb).toLoadRect (h.unread x) = x :=
  (View.readAt_full m.view (h.unread x) inb).trans (h.read_unread x)

/-! ## The three runs -/

/-- What the body leaves in the three scratch buffers: the running maximum, the running sum, the running pick. -/
abbrev Acc (F : FTy → Type) [FloatOps F] : Type := Vec F S256x1 .f32 × Vec F S256x1 .f32 × Vec F S256x1 .f32

/-- The scratch after the first column block. -/
def accFirst (i : grid0.Coords) (x0 : Vec F S256x1 .i32) (x1 : Vec F S256x8192 .f32) : Acc F :=
  (k0_pay4 x1, k0_pay5 x1, k0_pay6 i x1 x0)
/-- The scratch after a middle column block, from what it held. -/
def accMid (i : grid0.Coords) (x0 : Vec F S256x1 .i32) (x1 : Vec F S256x8192 .f32) (a : Acc F) : Acc F :=
  (k0_pay9 x1 a.1, k0_pay8 x1 a.1 a.2.1, k0_pay10 i x1 x0 a.2.2)
/-- The scratch after the last column block, from what it held. -/
def accLast (i : grid0.Coords) (x0 : Vec F S256x1 .i32) (x1 : Vec F S256x8192 .f32) (a : Acc F) : Acc F :=
  (k0_pay21 (BitVec.ofNat 32 (i 1).val) x1 a.1, k0_pay20 (BitVec.ofNat 32 (i 1).val) x1 a.1 a.2.1,
    k0_pay22 (BitVec.ofNat 32 (i 1).val) x1 x0 a.2.2)
/-- The row block's result, from the scratch the last column block leaves. -/
def outOf (a : Acc F) : Vec F S256x1 .f32 := k0_pay11 (k0_pay23 a.1 a.2.1) a.2.2

section
variable (c : Dev nD) (i : grid0.Coords)
  (arg2 : Memref sig .tc .vmem S256x1 .i32) (harg2 : arg2.IsWhole)
  (arg3 : Memref sig .tc .vmem S256x8192 .f32) (harg3 : arg3.IsWhole)
  (arg4 : Memref sig .tc .vmem S256x1 .f32) (harg4 : arg4.IsWhole)
  (arg5 : Memref sig .tc .vmem S256x1 .f32) (harg5 : arg5.IsWhole)
  (arg6 : Memref sig .tc .vmem S256x1 .f32) (harg6 : arg6.IsWhole)
  (arg7 : Memref sig .tc .vmem S256x1 .f32) (harg7 : arg7.IsWhole)
  (x0 : Vec F S256x1 .i32) (x1 : Vec F S256x8192 .f32)

/-- The three scratch buffers held at `a`. -/
abbrev scratchAt (a : Acc F) : sProp 𝕄 :=
  iprop(owns (c : Thread nD τ) arg5 fullShare a.1 ∗ owns (c : Thread nD τ) arg6 fullShare a.2.1
    ∗ owns (c : Thread nD τ) arg7 fullShare a.2.2)

set_option maxHeartbeats 1200000 in
/-- The first column block: the scratch, whatever it held, is set; the result's buffer is untouched. -/
theorem run_first (h1 : isMain i) (h2 : isFirst i) (h3 : ¬isLater i) (h4 : ¬isTail i) (a : Acc F)
    (d : Vec F S256x1 .f32) (E : Set ℕ) (K : PUnit → sProp 𝕄) :
    iprop(owns (c : Thread nD τ) arg2 fullShare x0 ∗ owns (c : Thread nD τ) arg3 fullShare x1
        ∗ owns (c : Thread nD τ) arg4 fullShare d ∗ scratchAt c arg5 arg6 arg7 a
        ∗ (iprop(owns (c : Thread nD τ) arg2 fullShare x0 ∗ owns (c : Thread nD τ) arg3 fullShare x1
            ∗ owns (c : Thread nD τ) arg4 fullShare d ∗ scratchAt c arg5 arg6 arg7 (accFirst i x0 x1)) -∗ K ⟨⟩))
      ⊢ wp frame (wpE (defs₀ (F := F)) Variants.none c none) E
          (cc0__nce_body i arg2 harg2 arg3 harg3 arg4 harg4 arg5 harg5 arg6 harg6 arg7 harg7) K := by
  simp only [cc0__nce_body_eq_skeleton]; unfold cc0__nce_body_skel
  unfold scratchAt owns
  iintro ⟨⟨%f0, %hf0, H0⟩, ⟨%f1, %hf1, H1⟩, H2, ⟨⟨%fs0, -, HS0⟩, ⟨%fs1, -, HS1⟩, ⟨%fs2, -, HS2⟩⟩, Hk⟩
  obtain rfl := harg2.eq_unread hf0; obtain rfl := harg3.eq_unread hf1
  sl_exec (disch := first | sl_exact h1 | sl_exact h2 | sl_exact h3 | sl_exact h4)
  sl_step
  iapply Hk
  isplitl [H0]
  · iexists _; isplitr; · ipureintro; exact harg2.read_unread _
    iexact H0
  isplitl [H1]
  · iexists _; isplitr; · ipureintro; exact harg3.read_unread _
    iexact H1
  isplitl [H2]; · iexact H2
  isplitl [HS0]
  · iexists _; isplitr
    swap; · iexact HS0
    ipureintro; simp only [accFirst, read_store, load_col, load_block]
  isplitl [HS1]
  · iexists _; isplitr
    swap; · iexact HS1
    ipureintro; simp only [accFirst, read_store, load_col, load_block]
  · iexists _; isplitr
    swap; · iexact HS2
    ipureintro; simp only [accFirst, read_store, load_col, load_block]

set_option maxHeartbeats 1200000 in
/-- A middle column block: the scratch is updated; the result's buffer is untouched. -/
theorem run_mid (h1 : isMain i) (h2 : ¬isFirst i) (h3 : isLater i) (h4 : ¬isTail i) (a : Acc F)
    (d : Vec F S256x1 .f32) (E : Set ℕ) (K : PUnit → sProp 𝕄) :
    iprop(owns (c : Thread nD τ) arg2 fullShare x0 ∗ owns (c : Thread nD τ) arg3 fullShare x1
        ∗ owns (c : Thread nD τ) arg4 fullShare d ∗ scratchAt c arg5 arg6 arg7 a
        ∗ (iprop(owns (c : Thread nD τ) arg2 fullShare x0 ∗ owns (c : Thread nD τ) arg3 fullShare x1
            ∗ owns (c : Thread nD τ) arg4 fullShare d ∗ scratchAt c arg5 arg6 arg7 (accMid i x0 x1 a)) -∗ K ⟨⟩))
      ⊢ wp frame (wpE (defs₀ (F := F)) Variants.none c none) E
          (cc0__nce_body i arg2 harg2 arg3 harg3 arg4 harg4 arg5 harg5 arg6 harg6 arg7 harg7) K := by
  simp only [cc0__nce_body_eq_skeleton]; unfold cc0__nce_body_skel
  unfold scratchAt owns
  iintro ⟨⟨%f0, %hf0, H0⟩, ⟨%f1, %hf1, H1⟩, H2, ⟨⟨%fs0, %hs0, HS0⟩, ⟨%fs1, %hs1, HS1⟩, ⟨%fs2, %hs2, HS2⟩⟩, Hk⟩
  obtain rfl := harg2.eq_unread hf0; obtain rfl := harg3.eq_unread hf1
  obtain rfl := harg5.eq_unread hs0; obtain rfl := harg6.eq_unread hs1; obtain rfl := harg7.eq_unread hs2
  sl_exec (disch := first | sl_exact h1 | sl_exact h2 | sl_exact h3 | sl_exact h4)
  sl_step
  iapply Hk
  isplitl [H0]
  · iexists _; isplitr; · ipureintro; exact harg2.read_unread _
    iexact H0
  isplitl [H1]
  · iexists _; isplitr; · ipureintro; exact harg3.read_unread _
    iexact H1
  isplitl [H2]; · iexact H2
  isplitl [HS0]
  · iexists _; isplitr
    swap; · iexact HS0
    ipureintro; simp only [accMid, read_store, load_col, load_block]
  isplitl [HS1]
  · iexists _; isplitr
    swap; · iexact HS1
    ipureintro; simp only [accMid, read_store, load_col, load_block]
  · iexists _; isplitr
    swap; · iexact HS2
    ipureintro; simp only [accMid, read_store, load_col, load_block]

set_option maxHeartbeats 1200000 in
/-- The last column block: the scratch is updated, and the result's buffer, whatever it held, gets the result. -/
theorem run_last (h1 : ¬isMain i) (h2 : ¬isFirst i) (h3 : isLater i) (h4 : isTail i) (a : Acc F)
    (d : Vec F S256x1 .f32) (E : Set ℕ) (K : PUnit → sProp 𝕄) :
    iprop(owns (c : Thread nD τ) arg2 fullShare x0 ∗ owns (c : Thread nD τ) arg3 fullShare x1
        ∗ owns (c : Thread nD τ) arg4 fullShare d ∗ scratchAt c arg5 arg6 arg7 a
        ∗ (iprop(owns (c : Thread nD τ) arg2 fullShare x0 ∗ owns (c : Thread nD τ) arg3 fullShare x1
            ∗ owns (c : Thread nD τ) arg4 fullShare (outOf (accLast i x0 x1 a))
            ∗ scratchAt c arg5 arg6 arg7 (accLast i x0 x1 a)) -∗ K ⟨⟩))
      ⊢ wp frame (wpE (defs₀ (F := F)) Variants.none c none) E
          (cc0__nce_body i arg2 harg2 arg3 harg3 arg4 harg4 arg5 harg5 arg6 harg6 arg7 harg7) K := by
  simp only [cc0__nce_body_eq_skeleton]; unfold cc0__nce_body_skel
  simp only [k0_part1_eq_skeleton]
  unfold scratchAt owns
  iintro ⟨⟨%f0, %hf0, H0⟩, ⟨%f1, %hf1, H1⟩, ⟨%f2, -, H2⟩, ⟨⟨%fs0, %hs0, HS0⟩, ⟨%fs1, %hs1, HS1⟩, ⟨%fs2, %hs2, HS2⟩⟩, Hk⟩
  obtain rfl := harg2.eq_unread hf0; obtain rfl := harg3.eq_unread hf1
  obtain rfl := harg5.eq_unread hs0; obtain rfl := harg6.eq_unread hs1; obtain rfl := harg7.eq_unread hs2
  sl_exec (disch := first | sl_exact h1 | sl_exact h2 | sl_exact h3 | sl_exact h4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro; delta run_last.sl.r run_last.sl.v44
    delta run_last.sl.v40 run_last.sl.v41
    delta run_last.sl.HS0_1 run_last.sl.HS1_1 run_last.sl.HS2_1
    simp only [outOf, accLast, read_store, load_store, load_col, load_block]
  isplitl [HS0]
  · iexists _; isplitr
    swap; · iexact HS0
    ipureintro; delta run_last.sl.HS0_1; simp only [accLast, read_store, load_store, load_col, load_block]
  isplitl [HS1]
  · iexists _; isplitr
    swap; · iexact HS1
    ipureintro; delta run_last.sl.HS1_1; simp only [accLast, read_store, load_store, load_col, load_block]
  · iexists _; isplitr
    swap; · iexact HS2
    ipureintro; delta run_last.sl.HS2_1; simp only [accLast, read_store, load_store, load_col, load_block]

end

end Cert.KernelIdeal.Run

end
-- ==== Proof.KernelIdealRun.Blocks.lean ====
/-
  What the score block of `KernelIdeal` holds at each grid point. The last column block reaches past the scores' end:
  its buffer's columns from 1696 on hold nothing the proof can name. The body masks exactly those columns, so what it
  computes does not depend on them.
-/
module

public import proofs.«01_k».proof.Proof.KernelIdealRun.Cases
public import proofs.«01_k».proof.Proof.Gen.KernelIdeal.Frame

@[expose] public section

set_option maxRecDepth 16384

noncomputable section

namespace Cert.KernelIdeal.Run

open Cert.KernelIdeal Cert.KernelIdeal.Gen
open Idealize.ShloMosaic Idealize.ShloMosaic.TcCoe
open Idealize.ShloMosaic.Pipeline (Window)

variable {F : FTy → Type} [FloatOps F] [Named F]

/-- Blocks 0 to 11 of a row block lie inside the scores, -/
theorem xsize_main : ∀ t : Fin cfg0.N, t.val % 13 ≤ 11 → win0_1.xsize (grid0.coords t) 0 = 256 ∧ win0_1.xsize (grid0.coords t) 1 = 8192 :=
  (by decide +kernel : ∀ t : Fin grid0.N, t.val % 13 ≤ 11 → win0_1.xsize (grid0.coords t) 0 = 256 ∧ win0_1.xsize (grid0.coords t) 1 = 8192)
/-- and of the last one the first 1696 columns do. -/
theorem xsize_last : ∀ t : Fin cfg0.N, t.val % 13 = 12 → win0_1.xsize (grid0.coords t) 0 = 256 ∧ win0_1.xsize (grid0.coords t) 1 = 1696 :=
  (by decide +kernel : ∀ t : Fin grid0.N, t.val % 13 = 12 → win0_1.xsize (grid0.coords t) 0 = 256 ∧ win0_1.xsize (grid0.coords t) 1 = 1696)

/-- Where the block has array elements, the buffer holds them, whatever it is filled out with. -/
theorem fill_apply_congr {α : Type} (i : grid0.Coords) (d d' : S256x8192.Idx → α) (b : (win0_1.xblock i).Idx → α)
    (y : S256x8192.Idx) (h0 : (y 0).val < win0_1.xsize i 0) (h1 : (y 1).val < win0_1.xsize i 1) :
    win0_1.fill i d b y = win0_1.fill i d' b y := by
  have hm : win0_1.moved i y = true := (win0_1.moved_iff i y).mpr fun a => by
    match a with
    | ⟨0, _⟩ => exact h0
    | ⟨1, _⟩ => exact h1
  unfold Window.fill; rw [dif_pos hm, dif_pos hm]

/-- An uncut block does not depend on the filling. -/
theorem fill_main {α : Type} (t : Fin cfg0.N) (h : t.val % 13 ≤ 11) (d d' : S256x8192.Idx → α)
    (b : (win0_1.xblock (grid0.coords t)).Idx → α) :
    win0_1.fill (grid0.coords t) d b = win0_1.fill (grid0.coords t) d' b :=
  funext fun y => fill_apply_congr _ d d' b y ((xsize_main t h).1 ▸ (y 0).isLt) ((xsize_main t h).2 ▸ (y 1).isLt)

/-- The masked block: the score where the column is inside the scores, the mask's value elsewhere. -/
theorem pay12_apply (x : Vec F S256x8192 .f32) (y : S256x8192.Idx) :
    k0_pay12 12#32 x y = if (y 1).val < 1696 then x y else Named.named κ "mask" 0xF149F2CA#32 := by
  have hy : (y 1).val < 8192 := (y 1).isLt
  show Scalar.select (IntOp.cmpi .slt (IntOp.addi (Scalar.muli 12#32 8192#32) (BitVec.ofNat 32 (0 * 8192 + (y 1).val))) 100000#32)
    (x y) (Named.named κ "mask" 0xF149F2CA#32) = _
  have hc : IntOp.cmpi .slt (IntOp.addi (Scalar.muli 12#32 8192#32) (BitVec.ofNat 32 (0 * 8192 + (y 1).val))) 100000#32
      = BitVec.ofBool (decide ((y 1).val < 1696)) := by
    simp only [IntOp.cmpi, IntOp.addi, Scalar.muli, IntOp.muli, Nat.zero_mul, Nat.zero_add]
    congr 1
    rw [BitVec.slt_eq_decide, decide_eq_decide]
    have e : (12#32 * 8192#32 + BitVec.ofNat 32 (y 1).val) = BitVec.ofNat 32 (98304 + (y 1).val) := by
      rw [BitVec.ofNat_add]; rfl
    rw [e, BitVec.toInt_eq_toNat_cond, BitVec.toInt_eq_toNat_cond, BitVec.toNat_ofNat]
    simp only [BitVec.toNat_ofNat]
    omega
  rw [hc]
  by_cases h : (y 1).val < 1696
  · rw [if_pos h, decide_eq_true h]; rfl
  · rw [if_neg h, decide_eq_false h]; rfl

/-- The masked last block does not depend on the filling. -/
theorem pay12_fill (t : Fin cfg0.N) (h : t.val % 13 = 12) (d d' : S256x8192.Idx → F .f32)
    (b : (win0_1.xblock (grid0.coords t)).Idx → F .f32) :
    k0_pay12 12#32 (win0_1.fill (grid0.coords t) d b) = k0_pay12 12#32 (win0_1.fill (grid0.coords t) d' b) := by
  funext y
  rw [pay12_apply, pay12_apply]
  by_cases hy : (y 1).val < 1696
  · rw [if_pos hy, if_pos hy]
    exact fill_apply_congr _ d d' b y ((xsize_last t h).1 ▸ (y 0).isLt) ((xsize_last t h).2 ▸ hy)
  · rw [if_neg hy, if_neg hy]

/-- At the last column block the body's column counter reads 12. -/
theorem word_last (t : Fin cfg0.N) (h : t.val % 13 = 12) : BitVec.ofNat 32 (grid0.coords t 1).val = 12#32 := by
  rw [col_val, h]

/-- What the last column block leaves in the scratch depends on the score block through the masked one only. -/
theorem accLast_congr (i : grid0.Coords) (x0 : Vec F S256x1 .i32) {x x' : Vec F S256x8192 .f32} (a : Acc F)
    (h : k0_pay12 (BitVec.ofNat 32 (i 1).val) x = k0_pay12 (BitVec.ofNat 32 (i 1).val) x') :
    accLast i x0 x a = accLast i x0 x' a := by
  have e13 : k0_pay13 (BitVec.ofNat 32 (i 1).val) x = k0_pay13 (BitVec.ofNat 32 (i 1).val) x' := by
    unfold k0_pay13; rw [h]
  have e14 : k0_pay14 (BitVec.ofNat 32 (i 1).val) x = k0_pay14 (BitVec.ofNat 32 (i 1).val) x' := by
    unfold k0_pay14; rw [h, e13]
  have e15 : k0_pay15 (BitVec.ofNat 32 (i 1).val) x x0 = k0_pay15 (BitVec.ofNat 32 (i 1).val) x' x0 := by
    unfold k0_pay15; rw [h]
  unfold accLast k0_pay20 k0_pay21 k0_pay22 k0_pay19
  rw [e13, e14, e15]

end Cert.KernelIdeal.Run

end
-- ==== Proof.KernelIdealRun.Launch.lean ====
/-
  The run of `KernelIdeal` as a whole: what the scratch holds after each grid point (`acc`), the kernel body's obligation
  at every point, and the run, which ends with the result array at what those points stored and the arguments unchanged.
-/
module

public import proofs.«01_k».proof.Proof.KernelIdealRun.Blocks
public import Idealize.ShloMosaic.Lib.Claim

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Window BodyObligationLoose)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the buffers hold -/

/-- The target words of point `t`'s row block. -/
def tblk (c : Dev nD) (t : Fin cfg0.N) : Vec F S256x1 .i32 := iblk m c 0 t
/-- The score block of point `t`, its columns past the scores' end filled out with the zero word. -/
def xblk (c : Dev nD) (t : Fin cfg0.N) : Vec F S256x8192 .f32 :=
  win0_1.fill (grid0.coords t) (fun _ => Scalar.ofBits .f32 0#32) (iblk m c 1 t)

/-- What point `t` makes of the scratch: by column block it is set, updated, or updated for the last time. -/
def stepAt (c : Dev nD) (t : Fin cfg0.N) (a : Acc F) : Acc F :=
  if t.val % 13 = 0 then accFirst (grid0.coords t) (tblk m c t) (xblk m c t)
  else if t.val % 13 = 12 then accLast (grid0.coords t) (tblk m c t) (xblk m c t) a
  else accMid (grid0.coords t) (tblk m c t) (xblk m c t) a

/-- The scratch after the first `n` points (before the first it holds anything, here the zero word). -/
def acc (c : Dev nD) : ℕ → Acc F
  | 0 => ⟨fun _ => Scalar.ofBits .f32 0#32, fun _ => Scalar.ofBits .f32 0#32, fun _ => Scalar.ofBits .f32 0#32⟩
  | n + 1 => if h : n < cfg0.N then stepAt m c ⟨n, h⟩ (acc c n) else acc c n

theorem acc_succ (c : Dev nD) (t : Fin cfg0.N) : acc m c (t.val + 1) = stepAt m c t (acc m c t.val) :=
  dif_pos t.isLt

/-- The three scratch buffers, as the body is given them. -/
abbrev sc0 : Memref sig .tc .vmem S256x1 .f32 := Memref.whole cc0_scratch0
abbrev sc1 : Memref sig .tc .vmem S256x1 .f32 := Memref.whole cc0_scratch1
abbrev sc2 : Memref sig .tc .vmem S256x1 .f32 := Memref.whole cc0_scratch2

/-- The region's scoped rest and the generator register, the scratch buffers each held at anything. -/
theorem rest_eq (c : Dev nD) :
    (Pipeline.ΦA spec0 c : sProp 𝕄)
      = iprop(iprop((∃ d, owns (c : Thread nD τ) sc0 fullShare d) ∗ (∃ d, owns (c : Thread nD τ) sc1 fullShare d)
          ∗ (∃ d, owns (c : Thread nD τ) sc2 fullShare d)) ∗ (∃ r, prngReg c r)) := by
  unfold Pipeline.ΦA; rw [scopedRest0_eq]; simp only [sc0, sc1, sc2, owns_whole]; try rfl

/-- The invariant between points: before the first the scratch holds anything, afterwards `acc`. -/
def inv (c : Dev nD) : ℕ → sProp 𝕄
  | 0 => Pipeline.ΦA spec0 c
  | n + 1 => iprop(scratchAt c sc0 sc1 sc2 (acc m c (n + 1)) ∗ (∃ r, prngReg c r))

/-- Whatever the position, some contents are in the scratch, and after the first point they are `acc`'s. -/
theorem inv_open (c : Dev nD) (n : ℕ) :
    inv m c n ⊢ iprop(∃ a : Acc F, ⌜n ≠ 0 → a = acc m c n⌝ ∗ scratchAt c sc0 sc1 sc2 a ∗ (∃ r, prngReg c r)) := by
  cases n with
  | zero =>
    show Pipeline.ΦA spec0 c ⊢ _
    rw [rest_eq]
    iintro ⟨⟨⟨%d0, H0⟩, ⟨%d1, H1⟩, ⟨%d2, H2⟩⟩, Hg⟩
    iexists (d0, d1, d2)
    isplitr; · ipureintro; exact fun h => absurd rfl h
    isplitl [H0 H1 H2]
    · isplitl [H0]; · iexact H0
      isplitl [H1]; · iexact H1
      iexact H2
    iexact Hg
  | succ n =>
    show iprop(scratchAt c sc0 sc1 sc2 (acc m c (n + 1)) ∗ (∃ r, prngReg c r)) ⊢ _
    iintro ⟨HS, Hg⟩
    iexists acc m c (n + 1)
    isplitr; · ipureintro; exact fun _ => rfl
    isplitl [HS]; · iexact HS
    iexact Hg

/-- The proof data: the arrays as the region finds them; after a point the inputs' buffers at their blocks and the
    result's at the row block's result; the invariant `inv`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => tblk m c t
    | ⟨1, _⟩ => xblk m c t
    | ⟨2, _⟩ => outOf (acc m c (t.val + 1))
  Φ t := inv m c t.val
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats, tblk]
theorem after_1 (c : Dev nD) (t : Fin cfg0.N) : (dats m 0 c).after 1 t = xblk m c t := by dsimp only [dats]
theorem after_2 (c : Dev nD) (t : Fin cfg0.N) : (dats m 0 c).after 2 t = outOf (acc m c (t.val + 1)) := by dsimp only [dats]

/-- The body finds the targets' block, -/
theorem before_0 (c : Dev nD) (t : Fin cfg0.N) (d) : (dats m 0 c).before 0 t d = tblk m c t :=
  before0_0_of m (dats m 0 c) (A_eq m c 0) (after_0 m c) t d
/-- and the score block on the columns inside the scores, anything elsewhere. -/
theorem before_1 (c : Dev nD) (t : Fin cfg0.N) (d) :
    (dats m 0 c).before 1 t d = win0_1.fill (grid0.coords t) d (iblk m c 1 t) := by
  unfold Dat.before; rw [if_pos (fetch0_1 t)]; rfl

/-! ## The body at every point -/

/-- The result's buffer is left alone, and not written back, except at the last column block. -/
theorem idle_2 : ∀ t : Fin cfg0.N, t.val % 13 ≠ 12 → cfg0.idle 2 (grid0.coords t) = true :=
  (by decide +kernel : ∀ t : Fin grid0.N, t.val % 13 ≠ 12 → cfg0.idle 2 (grid0.coords t) = true)
theorem live_2 : ∀ t : Fin cfg0.N, t.val % 13 = 12 → cfg0.idle 2 (grid0.coords t) = false :=
  (by decide +kernel : ∀ t : Fin grid0.N, t.val % 13 = 12 → cfg0.idle 2 (grid0.coords t) = false)
theorem noFlush_2 (t : Fin cfg0.N) (h : t.val % 13 ≠ 12) : (cfg0.win 2).flush t = false :=
  Bool.eq_false_iff.mpr fun e => h ((flush0_2 t).mp e)

/-- What the body makes of the scratch does not depend on what fills the score block out. -/
theorem step_fill (c : Dev nD) (t : Fin cfg0.N) (d : S256x8192.Idx → F .f32) (a : Acc F) :
    stepAt m c t a =
      (if t.val % 13 = 0 then accFirst (grid0.coords t) (tblk m c t) (win0_1.fill (grid0.coords t) d (iblk m c 1 t))
       else if t.val % 13 = 12 then accLast (grid0.coords t) (tblk m c t) (win0_1.fill (grid0.coords t) d (iblk m c 1 t)) a
       else accMid (grid0.coords t) (tblk m c t) (win0_1.fill (grid0.coords t) d (iblk m c 1 t)) a) := by
  have ht : t.val % 13 < 13 := Nat.mod_lt _ (by decide)
  unfold stepAt xblk
  by_cases h12 : t.val % 13 = 12
  · rw [if_neg (by omega), if_pos h12, if_neg (by omega), if_pos h12]
    refine accLast_congr _ _ _ ?_
    rw [word_last t h12]
    exact pay12_fill t h12 _ _ _
  · rw [fill_main t (by omega) _ d]

/-- The body table's row at point `t` is the body at its buffers. -/
theorem row (t : Fin cfg0.N) : defs₀ (F := F) .tc cfg0.body (cfg0.bodyArgs t (cfg0.slots t)) = bodyAt0 t := by
  unfold defs₀; rw [Defs.onTc_tc]

/-- The score buffer is handed back on the columns inside the scores. -/
theorem give_1 (c : Dev nD) (t : Fin cfg0.N) (d : S256x8192.Idx → F .f32) :
    owns (c : Thread nD τ) (win0_1.stage (cfg0.slots t 1)) fullShare (win0_1.fill (grid0.coords t) d (iblk m c 1 t))
      ⊢ ((dats m 0 c).leaves 1 t : sProp 𝕄) := by
  rw [show (dats m 0 c).leaves 1 t = iprop(∃ d, owns (c : Thread nD τ) (win0_1.stage (cfg0.slots t 1)) fullShare
      (win0_1.fill (grid0.coords t) d (win0_1.cut (grid0.coords t) (xblk m c t)))) from by
    unfold Dat.leaves; rw [after_1]]
  rw [show win0_1.cut (grid0.coords t) (xblk m c t) = iblk m c 1 t from win0_1.cut_fill _ _ _]
  iintro H; iexists d; iexact H

set_option maxHeartbeats 1600000 in
/-- The kernel body's obligation at every point. -/
theorem body_at (c : Dev nD) (t : Fin cfg0.N) :
    iprop((dats m 0 c).Φ t.castSucc ∗ (dats m 0 c).owesAt () t.castSucc
        ∗ (∃ d, owns (c : Thread nD τ) (win0_0.stage (cfg0.slots t 0)) fullShare ((dats m 0 c).before 0 t d))
        ∗ (∃ d, owns (c : Thread nD τ) (win0_1.stage (cfg0.slots t 1)) fullShare ((dats m 0 c).before 1 t d))
        ∗ (∃ d, owns (c : Thread nD τ) (win0_2.stage (cfg0.slots t 2)) fullShare ((dats m 0 c).before 2 t d)))
      ⊢ wp frame (wpE (defs₀ (F := F)) Variants.none c none) Set.univ (bodyAt0 t) (fun _ =>
        iprop((dats m 0 c).Φ t.succ ∗ (dats m 0 c).owesAt () t.succ
          ∗ (dats m 0 c).leaves 0 t ∗ (dats m 0 c).leaves 1 t ∗ (dats m 0 c).leaves 2 t)) := by
  have ht : t.val % 13 < 13 := Nat.mod_lt _ (by decide)
  rw [show (dats m 0 c).owesAt () t.succ = (dats m 0 c).owesAt () t.castSucc from rfl,
    show (dats m 0 c).Φ t.castSucc = inv m c t.val from rfl,
    show (dats m 0 c).Φ t.succ = iprop(scratchAt c sc0 sc1 sc2 (acc m c (t.val + 1)) ∗ (∃ r, prngReg c r)) from rfl,
    show (dats m 0 c).leaves 0 t = owns (c : Thread nD τ) (win0_0.stage (cfg0.slots t 0)) fullShare (tblk m c t) from by
      unfold Dat.leaves; rw [after_0]; rfl]
  simp only [before_0, before_1]
  refine (Idealize.SL.BI.Laws.sep_mono (inv_open m c t.val) .rfl).trans ?_
  by_cases h12 : t.val % 13 = 12
  · rw [show (dats m 0 c).leaves 2 t = owns (c : Thread nD τ) (win0_2.stage (cfg0.slots t 2)) fullShare (outOf (acc m c (t.val + 1))) from by
      unfold Dat.leaves; rw [live_2 t h12, after_2]]
    iintro ⟨⟨%a, %ha, HS, Hg⟩, Ho, ⟨%d0, H0⟩, ⟨%d1, H1⟩, ⟨%d2, H2⟩⟩
    have hacc : acc m c (t.val + 1) = accLast (grid0.coords t) (tblk m c t) (win0_1.fill (grid0.coords t) d1 (iblk m c 1 t)) a := by
      rw [acc_succ, step_fill m c t d1, if_neg (by omega), if_pos h12, ← ha (by rintro h0; rw [h0] at h12; omega)]
    rw [hacc]
    iapply (run_last c (grid0.coords t) _ _ _ _ _ _ _ _ _ _ _ _ (tblk m c t) (win0_1.fill (grid0.coords t) d1 (iblk m c 1 t))
      (fun h => absurd ((isMain_iff t).mp h) (by omega)) (fun h => absurd ((isFirst_iff t).mp h) (by omega))
      ((isLater_iff t).mpr (by omega)) ((isTail_iff t).mpr h12) a _ Set.univ _)
    isplitl [H0]; · iexact H0
    isplitl [H1]; · iexact H1
    isplitl [H2]; · iexact H2
    isplitl [HS]; · iexact HS
    iintro ⟨H0, H1, H2, HS⟩
    isplitl [HS Hg]
    · isplitl [HS]; · iexact HS
      iexact Hg
    isplitl [Ho]; · iexact Ho
    isplitl [H0]; · iexact H0
    isplitl [H1]; · iapply (give_1 m c t d1); iexact H1
    iexact H2
  · rw [Dat.leaves_idle (dats m 0 c) 2 t (idle_2 t h12) (noFlush_2 t h12)]
    iintro ⟨⟨%a, %ha, HS, Hg⟩, Ho, ⟨%d0, H0⟩, ⟨%d1, H1⟩, ⟨%d2, H2⟩⟩
    by_cases h0 : t.val % 13 = 0
    · have hacc : acc m c (t.val + 1) = accFirst (grid0.coords t) (tblk m c t) (win0_1.fill (grid0.coords t) d1 (iblk m c 1 t)) := by
        rw [acc_succ, step_fill m c t d1, if_pos h0]
      rw [hacc]
      iapply (run_first c (grid0.coords t) _ _ _ _ _ _ _ _ _ _ _ _ (tblk m c t) (win0_1.fill (grid0.coords t) d1 (iblk m c 1 t))
        ((isMain_iff t).mpr (by omega)) ((isFirst_iff t).mpr h0)
        (fun h => absurd ((isLater_iff t).mp h) (by omega)) (fun h => absurd ((isTail_iff t).mp h) h12) a _ Set.univ _)
      isplitl [H0]; · iexact H0
      isplitl [H1]; · iexact H1
      isplitl [H2]; · iexact H2
      isplitl [HS]; · iexact HS
      iintro ⟨H0, H1, H2, HS⟩
      isplitl [HS Hg]
      · isplitl [HS]; · iexact HS
        iexact Hg
      isplitl [Ho]; · iexact Ho
      isplitl [H0]; · iexact H0
      isplitl [H1]; · iapply (give_1 m c t d1); iexact H1
      iexists d2; iexact H2
    · have hacc : acc m c (t.val + 1) = accMid (grid0.coords t) (tblk m c t) (win0_1.fill (grid0.coords t) d1 (iblk m c 1 t)) a := by
        rw [acc_succ, step_fill m c t d1, if_neg h0, if_neg h12, ← ha (by rintro e; rw [e] at h0; exact h0 rfl)]
      rw [hacc]
      iapply (run_mid c (grid0.coords t) _ _ _ _ _ _ _ _ _ _ _ _ (tblk m c t) (win0_1.fill (grid0.coords t) d1 (iblk m c 1 t))
        ((isMain_iff t).mpr (by omega)) (fun h => absurd ((isFirst_iff t).mp h) h0)
        ((isLater_iff t).mpr (by omega)) (fun h => absurd ((isTail_iff t).mp h) h12) a _ Set.univ _)
      isplitl [H0]; · iexact H0
      isplitl [H1]; · iexact H1
      isplitl [H2]; · iexact H2
      isplitl [HS]; · iexact HS
      iintro ⟨H0, H1, H2, HS⟩
      isplitl [HS Hg]
      · isplitl [HS]; · iexact HS
        iexact Hg
      isplitl [Ho]; · iexact Ho
      isplitl [H0]; · iexact H0
      isplitl [H1]; · iapply (give_1 m c t d1); iexact H1
      iexists d2; iexact H2

theorem body_obligation (c : Dev nD) : BodyObligationLoose (dats (F := F) m 0 c) (defs₀ (F := F)) Variants.none () Set.univ := fun t => by
  rw [bigSep_W0, bigSep_W0, row]
  exact triple_restated (body_at m c t) rfl .rfl fun _ => .rfl

/-! ## The run -/

theorem hin (c : Dev nD) : Pipeline.ΦA spec0 c ⊢ (dats m 0 c).Φ 0 := by
  rw [show (dats m 0 c).Φ 0 = Pipeline.ΦA spec0 c from rfl]

/-- After the last point the scratch's contents are forgotten. -/
theorem hout (c : Dev nD) : (dats m 0 c).Φ (Fin.last cfg0.N) ⊢ Pipeline.ΦA spec0 c := by
  rw [show (dats m 0 c).Φ (Fin.last cfg0.N) = inv m c cfg0.N from rfl, rest_eq]
  refine (inv_open m c _).trans ?_
  iintro ⟨%a, -, ⟨H0, H1, H2⟩, Hg⟩
  isplitl [H0 H1 H2]
  · isplitl [H0]; · iexists _; iexact H0
    isplitl [H1]; · iexists _; iexact H1
    iexists _; iexact H2
  iexact Hg

set_option backward.isDefEq.respectTransparency.types false in
set_option maxHeartbeats 800000 in
/-- Every weakly fair execution of @main from zero counters ends with the arrays at what the points stored, every other
    buffer as the host lines after the region leave it, and every counter at zero. -/
theorem run_main : θ_run defs (onTc (τ := τ) (main (F := F))) (s₀ m ρ) (fun r =>
    (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := body_obligation m) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Run

end
-- ==== Proof.LogSumExp.lean ====
/-
  The mathematics of a row's loss, over the extended reals and apart from any program. A row is a function `f` of the
  column number. Over a set `S` of columns its largest score is `S.sup f`, its mass the sum of `exp (f c - S.sup f)`, and
  its pick the score at the target column where `S` holds it. All three of two disjoint sets give those of their union.
-/
module

public import Idealize.ShloMosaic.PureOps.Ideal.Laws

@[expose] public section

noncomputable section

namespace Cert.LogSumExp

open Idealize.ShloMosaic

variable (S T : Finset ℕ) (t : ℕ) (f : ℕ → EReal)

/-- The mass of the columns `S`, relative to their largest score. -/
def mass : EReal := ∑ c ∈ S, Ideal.exp (f c - S.sup f)

/-- The score at column `t`, 0 where `S` does not hold it. -/
def pick : EReal := ∑ c ∈ S, if c = t then f c else 0

/-- The loss of the row over the columns `S` with target `t`. -/
def loss : EReal := S.sup f + Ideal.log (mass S f) - pick S t f

/-! ## The exponential -/

theorem exp_coe (r : ℝ) : Ideal.exp (r : EReal) = (Real.exp r : EReal) := rfl

theorem exp_nonneg (x : EReal) : 0 ≤ Ideal.exp x := by
  induction x using EReal.rec with
  | bot => exact le_refl _
  | coe r => exact EReal.coe_nonneg.mpr (Real.exp_pos r).le
  | top => exact le_top

/-- Rescaling from one reference score to a larger one. -/
theorem exp_chain {x a m : EReal} (hxa : x ≤ a) (ham : a ≤ m) (hm : m < ⊤) :
    Ideal.exp (x - a) * Ideal.exp (a - m) = Ideal.exp (x - m) := by
  induction m using EReal.rec with
  | top => exact absurd hm (lt_irrefl _)
  | bot =>
    obtain rfl := le_bot_iff.mp ham
    obtain rfl := le_bot_iff.mp hxa
    show Ideal.exp (⊥ - ⊥) * Ideal.exp (⊥ - ⊥) = Ideal.exp (⊥ - ⊥)
    rw [show (⊥ - ⊥ : EReal) = ⊥ from rfl]; exact zero_mul _
  | coe m =>
    induction a using EReal.rec with
    | top => exact absurd (ham.trans_lt hm) (lt_irrefl _)
    | bot =>
      obtain rfl := le_bot_iff.mp hxa
      rw [EReal.bot_sub, EReal.bot_sub]; exact zero_mul _
    | coe a =>
      induction x using EReal.rec with
      | top => exact absurd hxa (by simp)
      | bot => rw [EReal.bot_sub, EReal.bot_sub]; exact zero_mul _
      | coe x =>
        rw [← EReal.coe_sub, ← EReal.coe_sub, ← EReal.coe_sub, exp_coe, exp_coe, exp_coe, ← EReal.coe_mul, ← Real.exp_add]
        congr 2; ring

/-- Sums of non-negative terms may be scaled term by term. -/
theorem sum_scale (g : ℕ → EReal) (hg : ∀ c, 0 ≤ g c) (k : EReal) : (∑ c ∈ S, g c) * k = ∑ c ∈ S, g c * k := by
  classical
  induction S using Finset.induction_on with
  | empty => simp
  | insert c S h ih =>
    rw [Finset.sum_insert h, Finset.sum_insert h, EReal.right_distrib_of_nonneg (hg c) (Finset.sum_nonneg fun i _ => hg i), ih]

/-- A sum of real numbers is their sum as extended reals. -/
theorem coe_sum (g : ℕ → ℝ) : ((∑ c ∈ S, g c : ℝ) : EReal) = ∑ c ∈ S, (g c : EReal) := by
  classical
  induction S using Finset.induction_on with
  | empty => rfl
  | insert c S h ih => rw [Finset.sum_insert h, Finset.sum_insert h, EReal.coe_add, ih]

/-- The mass of `S`, taken to a larger reference score. -/
theorem mass_rescale (m : EReal) (h : S.sup f ≤ m) (hm : m < ⊤) :
    mass S f * Ideal.exp (S.sup f - m) = ∑ c ∈ S, Ideal.exp (f c - m) := by
  unfold mass
  rw [sum_scale S _ fun c => exp_nonneg _]
  exact Finset.sum_congr rfl fun c hc => exp_chain (Finset.le_sup hc) h hm

/-! ## Two disjoint sets of columns -/

theorem sup_union : (S ∪ T).sup f = max (S.sup f) (T.sup f) := Finset.sup_union

theorem mass_union (h : Disjoint S T) (hm : (S ∪ T).sup f < ⊤) :
    mass (S ∪ T) f = mass S f * Ideal.exp (S.sup f - max (S.sup f) (T.sup f))
      + mass T f * Ideal.exp (T.sup f - max (S.sup f) (T.sup f)) := by
  rw [sup_union] at hm
  rw [mass_rescale S f _ (le_max_left _ _) hm, mass_rescale T f _ (le_max_right _ _) hm, ← Finset.sum_union h]
  unfold mass; rw [sup_union]

theorem pick_union (h : Disjoint S T) : pick (S ∪ T) t f = pick S t f + pick T t f := Finset.sum_union h

/-! ## Columns that hold -∞ do not count -/

/-- Columns at -∞ may be left out. -/
theorem sup_pad (hST : S ⊆ T) (h : ∀ c ∈ T, c ∉ S → f c = ⊥) : T.sup f = S.sup f :=
  le_antisymm (Finset.sup_le fun c hc => by
    by_cases hS : c ∈ S
    · exact Finset.le_sup hS
    · rw [h c hc hS]; exact bot_le) (Finset.sup_mono hST)

theorem mass_pad (hST : S ⊆ T) (h : ∀ c ∈ T, c ∉ S → f c = ⊥) : mass T f = mass S f := by
  unfold mass
  rw [sup_pad S T f hST h]
  exact (Finset.sum_subset hST fun c hc hS => by rw [h c hc hS, EReal.bot_sub]; rfl).symm

/-- The pick is the score at the target. -/
theorem pick_mem (ht : t ∈ S) : pick S t f = f t := by
  unfold pick; rw [Finset.sum_ite_eq' S t f, if_pos ht]

/-! ## The loss as the negated log-probability -/

/-- The mass is a positive real number when the largest score is a real number. -/
theorem mass_real {M : ℝ} (hM : S.sup f = M) : ∃ z : ℝ, 0 < z ∧ mass S f = z := by
  have hle : ∀ c ∈ S, f c ≤ M := fun c hc => hM ▸ Finset.le_sup hc
  have hterm : ∀ c ∈ S, Ideal.exp (f c - M) = ((Ideal.exp (f c - M)).toReal : EReal) := fun c hc => by
    have := hle c hc
    induction hx : f c using EReal.rec with
    | top => rw [hx] at this; exact absurd this (by simp)
    | bot => rw [EReal.bot_sub]; rfl
    | coe x => rw [← EReal.coe_sub, exp_coe]; rfl
  have hne : S.Nonempty := by
    by_contra h
    rw [Finset.not_nonempty_iff_eq_empty] at h
    rw [h, Finset.sup_empty] at hM
    exact absurd hM (by simp)
  obtain ⟨c, hc, hcM⟩ := Finset.exists_mem_eq_sup S hne f
  refine ⟨∑ c ∈ S, (Ideal.exp (f c - M)).toReal, ?_, ?_⟩
  · refine Finset.sum_pos' (fun c _ => EReal.toReal_nonneg (exp_nonneg _)) ⟨c, hc, ?_⟩
    rw [← hcM, hM, ← EReal.coe_sub, sub_self, exp_coe, EReal.toReal_coe]
    exact Real.exp_pos 0
  · unfold mass
    rw [hM, coe_sum]
    exact Finset.sum_congr rfl hterm

/-- The loss is the negated log-probability of the target, the exponentials taken relative to the largest score. -/
theorem loss_eq {M : ℝ} (hM : S.sup f = M) (ht : t ∈ S) :
    loss S t f = -(f t - S.sup f - Ideal.log (mass S f)) := by
  obtain ⟨z, hz, hmass⟩ := mass_real S f hM
  have hle : f t ≤ M := hM ▸ Finset.le_sup ht
  unfold loss
  rw [pick_mem S t f ht, hmass, hM, show Ideal.log (z : EReal) = (Real.log z : EReal) from if_neg (not_le.mpr hz)]
  induction hx : f t using EReal.rec with
  | top => rw [hx] at hle; exact absurd hle (by simp)
  | bot => rw [← EReal.coe_add, EReal.bot_sub, EReal.bot_sub]; rfl
  | coe x =>
    rw [← EReal.coe_add, ← EReal.coe_sub, ← EReal.coe_sub, ← EReal.coe_sub, ← EReal.coe_neg]
    congr 1; ring

end Cert.LogSumExp

end
-- ==== Proof.Columns.lean ====
/-
  The columns of a row taken in blocks of 8192: block `j` holds columns 8192·j up to 8192·(j+1), and the first `n` blocks
  together the columns below 8192·n.
-/
module

public import proofs.«01_k».proof.Proof.LogSumExp

@[expose] public section

noncomputable section

namespace Cert.LogSumExp

open Idealize.ShloMosaic

/-- The columns of block `j`. -/
def cols (j : ℕ) : Finset ℕ := Finset.Ico (8192 * j) (8192 * (j + 1))

theorem range_succ (n : ℕ) : Finset.range (8192 * (n + 1)) = Finset.range (8192 * n) ∪ cols n := by
  unfold cols
  rw [Finset.range_eq_Ico, Finset.range_eq_Ico, Finset.Ico_union_Ico_eq_Ico (by omega) (by omega)]

theorem range_one : Finset.range (8192 * (0 + 1)) = cols 0 := by
  rw [range_succ, Nat.mul_zero, Finset.range_zero, Finset.empty_union]

theorem range_disjoint (n : ℕ) : Disjoint (Finset.range (8192 * n)) (cols n) :=
  Finset.disjoint_left.mpr fun c h h' => by
    have h1 := Finset.mem_range.mp h
    have h2 := (Finset.mem_Ico.mp h').1
    omega

/-- A sum over the positions of block `j` is the sum over its columns. -/
theorem sum_cols (j : ℕ) (g : ℕ → EReal) : ∑ k : Fin 8192, g (8192 * j + k.val) = ∑ c ∈ cols j, g c := by
  unfold cols
  rw [Finset.sum_Ico_eq_sum_range, show 8192 * (j + 1) - 8192 * j = 8192 by omega, Finset.sum_range]

/-- The largest over the positions of block `j` is the largest over its columns. -/
theorem fold_cols (j : ℕ) (f : ℕ → EReal) :
    Finset.univ.fold max ⊥ (fun k : Fin 8192 => f (8192 * j + k.val)) = (cols j).sup f := by
  show Finset.univ.sup (fun k : Fin 8192 => f (8192 * j + k.val)) = _
  refine le_antisymm (Finset.sup_le fun k _ => Finset.le_sup (f := f) ?_) (Finset.sup_le fun c hc => ?_)
  · have := k.isLt
    exact Finset.mem_Ico.mpr (by omega)
  · obtain ⟨h1, h2⟩ := Finset.mem_Ico.mp hc
    have e : f c = (fun k : Fin 8192 => f (8192 * j + k.val)) ⟨c - 8192 * j, by omega⟩ := by
      show f c = f (8192 * j + (c - 8192 * j)); congr 1; omega
    rw [e]; exact Finset.le_sup (f := fun k : Fin 8192 => f (8192 * j + k.val)) (Finset.mem_univ _)

end Cert.LogSumExp

end
-- ==== Proof.Row.lean ====
/-
  The loss of the whole problem, apart from any program: the scores' rows as functions of the column number, the loss of
  a row, and the mean over the rows.
-/
module

public import proofs.«01_k».proof.Proof.Columns
public import Idealize.ShloMosaic.Lib.Pointwise

@[expose] public section

noncomputable section

namespace Cert.LogSumExp

open Idealize.ShloMosaic Idealize.ShloMosaic.Pointwise

/-- The pattern of -∞ is -∞. -/
theorem ofBits_neg_inf : Ideal.ofBits .f32 0xFF800000#32 = ⊥ := by simp [Ideal.ofBits, Ideal.ieee]

/-- Row `R` of the scores by column number, -∞ at the columns past the last one. -/
def scoreAt (x : (⟨2, ![2048, 100000]⟩ : Shape).Idx → EReal) (R : Fin 2048) (c : ℕ) : EReal :=
  if h : c < 100000 then x (ix2 R ⟨c, h⟩) else ⊥

/-- The loss of row `R`, over the columns of all thirteen blocks. -/
def rowLoss (x : (⟨2, ![2048, 100000]⟩ : Shape).Idx → EReal) (w : (⟨2, ![1, 2048]⟩ : Shape).Idx → BitVec 32) (R : Fin 2048) : EReal :=
  loss (Finset.range (8192 * 13)) (w (ix2 0 R)).toNat (scoreAt x R)

end Cert.LogSumExp

end
-- ==== Proof.KernelIdealValue.Payload.lean ====
/-
  The body's payloads at the ideal floats, read at a row: a block's largest score, its sum of exponentials, the score at
  the row's target, and the two updates of the scratch.
-/
module

public import proofs.«01_k».proof.Proof.KernelIdealRun.Blocks
public import proofs.«01_k».proof.Proof.Row
public import Idealize.ShloMosaic.Lib.Pointwise

@[expose] public section

set_option maxRecDepth 16384

noncomputable section

namespace Cert.KernelIdeal.Run

open Cert.KernelIdeal Cert.KernelIdeal.Gen
open Cert.LogSumExp (ofBits_neg_inf)
open Idealize.ShloMosaic Idealize.ShloMosaic.TcCoe
open Idealize.ShloMosaic.Pointwise

variable (x : Vec Ideal S256x8192 .f32) (w : Vec Ideal S256x1 .i32) (a b : Vec Ideal S256x1 .f32) (r : Fin 256)

/-- The mask's value is -∞. -/
theorem mask_value : Named.named (F := Ideal) κ "mask" (φ := .f32) 0xF149F2CA#32 = (⊥ : EReal) :=
  IdealRules.named_const.ideal_named_scalar _ _ _ _ rfl

/-- A row's largest score in a block. -/
theorem pay1_apply : k0_pay1 x (ix2 r 0) = Finset.univ.fold max ⊥ (fun k : Fin 8192 => x (ix2 r k)) := by
  pointwise [k0_pay1]
  rw [ofBits_neg_inf]

/-- A row's sum of exponentials in a block, relative to the block's largest score. -/
theorem pay2_apply : k0_pay2 x (ix2 r 0) = ∑ k : Fin 8192, Ideal.exp (x (ix2 r k) - k0_pay1 x (ix2 r 0)) := by
  pointwise [k0_pay2]

/-- A row's score at its target, 0 where the block does not hold that column. -/
theorem pay3_apply (i : grid0.Coords) : k0_pay3 i x w (ix2 r 0) = ∑ k : Fin 8192,
    Scalar.select (IntOp.cmpi .eq (IntOp.addi (Scalar.muli (BitVec.ofNat 32 (i 1).val) 8192#32) (BitVec.ofNat 32 k.val))
      (w (ix2 r 0))) (x (ix2 r k)) 0 := by
  pointwise [k0_pay3]

/-- The first block's payloads are these. -/
theorem pay4_apply : k0_pay4 x (ix2 r 0) = k0_pay1 x (ix2 r 0) := by pointwise [k0_pay4]
theorem pay5_apply : k0_pay5 x (ix2 r 0) = k0_pay2 x (ix2 r 0) := by pointwise [k0_pay5]
theorem pay6_apply (i : grid0.Coords) : k0_pay6 i x w (ix2 r 0) = k0_pay3 i x w (ix2 r 0) := by pointwise [k0_pay6]

/-- The updated largest score, -/
theorem pay9_apply : k0_pay9 x a (ix2 r 0) = max (a (ix2 r 0)) (k0_pay1 x (ix2 r 0)) := by pointwise [k0_pay9, k0_pay7]
/-- the updated sum of exponentials, both parts taken to the new largest score, -/
theorem pay8_apply : k0_pay8 x a b (ix2 r 0)
    = b (ix2 r 0) * Ideal.exp (a (ix2 r 0) - max (a (ix2 r 0)) (k0_pay1 x (ix2 r 0)))
      + k0_pay2 x (ix2 r 0) * Ideal.exp (k0_pay1 x (ix2 r 0) - max (a (ix2 r 0)) (k0_pay1 x (ix2 r 0))) := by
  pointwise [k0_pay8, k0_pay7]
/-- and the updated score at the target. -/
theorem pay10_apply (i : grid0.Coords) : k0_pay10 i x w a (ix2 r 0) = a (ix2 r 0) + k0_pay3 i x w (ix2 r 0) := by
  pointwise [k0_pay10]

/-- The result of a row. -/
theorem outOf_apply (s : Acc Ideal) : outOf s (ix2 r 0) = s.1 (ix2 r 0) + Ideal.log (s.2.1 (ix2 r 0)) - s.2.2 (ix2 r 0) := by
  pointwise [outOf, k0_pay11, k0_pay23]

/-- The last block's update is a middle block's, over the masked scores. -/
theorem accLast_eq (i : grid0.Coords) (s : Acc Ideal) :
    accLast i w x s = accMid i w (k0_pay12 (BitVec.ofNat 32 (i 1).val) x) s := rfl

end Cert.KernelIdeal.Run

end
-- ==== Proof.KernelIdealValue.State.lean ====
/-
  What the scratch holds of a row, at the ideal floats: the largest score, the mass and the pick of the columns seen so
  far. The first column block sets it for its own columns, each later one extends it by its own.
-/
module

public import proofs.«01_k».proof.Proof.KernelIdealValue.Payload
public import proofs.«01_k».proof.Proof.Columns

@[expose] public section

set_option maxRecDepth 16384

noncomputable section

namespace Cert.KernelIdeal.Run

open Cert.KernelIdeal Cert.KernelIdeal.Gen Cert.LogSumExp
open Idealize.ShloMosaic Idealize.ShloMosaic.TcCoe
open Idealize.ShloMosaic.Pointwise

variable (i : grid0.Coords) (x : Vec Ideal S256x8192 .f32) (w : Vec Ideal S256x1 .i32) (r : Fin 256) (f : ℕ → EReal)

/-- Row `r` of the scratch `s` describes the columns `S` of the scores `f` with target column `t`. -/
structure Holds (s : Acc Ideal) (S : Finset ℕ) (t : ℕ) : Prop where
  top : s.1 (ix2 r 0) = S.sup f
  mass : s.2.1 (ix2 r 0) = mass S f
  pick : s.2.2 (ix2 r 0) = pick S t f

section
variable (j : ℕ) (hj : j < 13) (hi : (i 1).val = j) (hx : ∀ k : Fin 8192, x (ix2 r k) = f (8192 * j + k.val))
include hj hi hx

/-- A block's largest score, mass and pick. -/
theorem pay1_cols : k0_pay1 x (ix2 r 0) = (cols j).sup f := by
  rw [pay1_apply, ← fold_cols]; exact congrArg (fun g => Finset.univ.fold max ⊥ g) (funext hx)
theorem pay2_cols : k0_pay2 x (ix2 r 0) = mass (cols j) f := by
  rw [pay2_apply, pay1_cols i x r f j hj hi hx]
  unfold Cert.LogSumExp.mass
  rw [← sum_cols j fun c => Ideal.exp (f c - (cols j).sup f)]
  exact Finset.sum_congr rfl fun k _ => by rw [hx k]
theorem pay3_cols : k0_pay3 i x w (ix2 r 0) = pick (cols j) (w (ix2 r 0)).toNat f := by
  rw [pay3_apply]
  unfold Cert.LogSumExp.pick
  rw [← sum_cols j fun c => if c = (w (ix2 r 0)).toNat then f c else 0]
  refine Finset.sum_congr rfl fun k _ => ?_
  have hk := k.isLt
  have e : IntOp.addi (Scalar.muli (BitVec.ofNat 32 (i 1).val) 8192#32) (BitVec.ofNat 32 k.val) = BitVec.ofNat 32 (8192 * j + k.val) := by
    rw [hi]
    show BitVec.ofNat 32 j * 8192#32 + BitVec.ofNat 32 k.val = _
    rw [BitVec.ofNat_add, BitVec.ofNat_mul, BitVec.mul_comm]
  rw [e, hx k]
  by_cases h : 8192 * j + k.val = (w (ix2 r 0)).toNat
  · rw [if_pos h]
    have hw : IntOp.cmpi .eq (BitVec.ofNat 32 (8192 * j + k.val)) (w (ix2 r 0)) = 1#1 := by
      rw [h, BitVec.ofNat_toNat, BitVec.setWidth_eq]; simp [IntOp.cmpi]
    rw [hw]; rfl
  · rw [if_neg h]
    have hw : IntOp.cmpi .eq (BitVec.ofNat 32 (8192 * j + k.val)) (w (ix2 r 0)) = 0#1 := by
      have hne : BitVec.ofNat 32 (8192 * j + k.val) ≠ w (ix2 r 0) := fun he => h (by
        have := congrArg BitVec.toNat he
        rw [BitVec.toNat_ofNat, Nat.mod_eq_of_lt (by omega)] at this
        exact this)
      show BitVec.ofBool (_ == _) = 0#1
      rw [beq_eq_false_iff_ne.mpr hne]; rfl
    rw [hw]; rfl

/-- After the first block the scratch describes its columns, -/
theorem holds_first (h0 : j = 0) : Holds r f (accFirst i w x) (Finset.range (8192 * (j + 1))) (w (ix2 r 0)).toNat := by
  rw [show Finset.range (8192 * (j + 1)) = cols j from by rw [h0]; exact range_one]
  unfold accFirst
  constructor <;> dsimp only
  · rw [pay4_apply, pay1_cols i x r f j hj hi hx]
  · rw [pay5_apply, pay2_cols i x r f j hj hi hx]
  · rw [pay6_apply, pay3_cols i x w r f j hj hi hx]

/-- and after a later block one block more. -/
theorem holds_mid (s : Acc Ideal) (hs : Holds r f s (Finset.range (8192 * j)) (w (ix2 r 0)).toNat)
    (hf : (Finset.range (8192 * (j + 1))).sup f < ⊤) :
    Holds r f (accMid i w x s) (Finset.range (8192 * (j + 1))) (w (ix2 r 0)).toNat := by
  rw [range_succ] at hf ⊢
  refine ⟨(pay9_apply x s.1 r).trans ?_, (pay8_apply x s.1 s.2.1 r).trans ?_, (pay10_apply x w s.2.2 r i).trans ?_⟩
  · rw [sup_union, hs.top, pay1_cols i x r f j hj hi hx]
  · rw [mass_union _ _ f (range_disjoint j) hf, hs.top, hs.mass, pay1_cols i x r f j hj hi hx, pay2_cols i x r f j hj hi hx]
  · rw [pick_union _ _ _ f (range_disjoint j), hs.pick, pay3_cols i x w r f j hj hi hx]

end

/-- The result of a row the scratch describes is its loss. -/
theorem outOf_holds (s : Acc Ideal) (S : Finset ℕ) (t : ℕ) (hs : Holds r f s S t) : outOf s (ix2 r 0) = loss S t f := by
  rw [outOf_apply, hs.top, hs.mass, hs.pick]; rfl

end Cert.KernelIdeal.Run

end
-- ==== Proof.KernelIdealValue.Read.lean ====
/-
  The blocks of a grid point read at an index: row `r` of point `t`'s blocks is row 256·(t / 13) + r of the arguments, and
  its column `k` is column 8192·(t % 13) + k of the scores.
-/
module

public import proofs.«01_k».proof.Proof.KernelIdealRun.Launch
public import proofs.«01_k».proof.Proof.KernelIdealValue.State
public import proofs.«01_k».proof.Proof.Row
public import Idealize.ShloMosaic.Lib.Pipeline.ValueKit

@[expose] public section

set_option maxRecDepth 16384

noncomputable section

namespace Cert.KernelIdeal.Run

open Cert.KernelIdeal Cert.KernelIdeal.Gen Cert.LogSumExp
open Idealize.ShloMosaic Idealize.ShloMosaic.TcCoe
open Idealize.ShloMosaic.Pointwise
open Idealize.ShloMosaic.Pipeline (Window)

variable (m : (ℓ : Loc nD τ sig) → Buf (Elt Ideal) ℓ) (c : Dev nD) (t : Fin cfg0.N)

/-- The arguments as the region's launch finds them. -/
abbrev tgt : Vec Ideal S1x2048 .i32 := m ((c : Thread nD τ).loc main_arg0)
abbrev scores : Vec Ideal S2048x100000 .f32 := m ((c : Thread nD τ).loc main_arg1)

theorem point_lt (t : Fin cfg0.N) : t.val < 104 := N_0 ▸ t.isLt

/-- The row of the arguments that row `r` of point `t`'s blocks is. -/
def rowAt (r : Fin 256) : Fin 2048 := ⟨256 * (t.val / 13) + r.val, by have := r.isLt; have := point_lt t; omega⟩

/-- The windows' block indices. -/
theorem index_0 : ∀ t : Fin cfg0.N, win0_0.index t 0 = t.val / 13 ∧ win0_0.index t 1 = 0 :=
  (by decide +kernel : ∀ t : Fin grid0.N, win0_0.index t 0 = t.val / 13 ∧ win0_0.index t 1 = 0)
theorem index_1 : ∀ t : Fin cfg0.N, win0_1.index t 0 = t.val / 13 ∧ win0_1.index t 1 = t.val % 13 :=
  (by decide +kernel : ∀ t : Fin grid0.N, win0_1.index t 0 = t.val / 13 ∧ win0_1.index t 1 = t.val % 13)
theorem index_2 : ∀ t : Fin cfg0.N, win0_2.index t 0 = t.val / 13 ∧ win0_2.index t 1 = 0 :=
  (by decide +kernel : ∀ t : Fin grid0.N, win0_2.index t 0 = t.val / 13 ∧ win0_2.index t 1 = 0)

/-- The reshaped targets as the region finds them. -/
theorem V_targets (R : Fin 2048) : V m c main_v0 (ix2 R 0) = tgt m c (ix2 0 R) := by
  have h : V m c main_v0 = shapeCast S2048x1 (tgt m c) (by decide) := by
    show StableHlo.after (List.flatten [hostOps0]) (fun b => m (c, b)) (Proc.devRef .tc main_v0) = _
    simp only [hostOps0, List.flatten_cons, List.flatten_nil, List.append_nil]
    after_results
    rfl
  rw [h]
  pointwise

/-- A target word of point `t`. -/
theorem tblk_apply (r : Fin 256) : tblk m c t (ix2 r 0) = tgt m c (ix2 0 (rowAt t r)) := by
  rw [← V_targets]
  show V m c main_v0 ((win0_0.rect t).emb (ix2 r 0)) = _
  congr 1
  funext a
  apply Fin.ext
  match a with
  | ⟨0, _⟩ =>
    refine (Window.rect_emb_val win0_0 t (ix2 r 0) 0).trans ?_
    rw [(index_0 t).1]; show t.val / 13 * 256 + r.val = 256 * (t.val / 13) + r.val; omega
  | ⟨1, _⟩ =>
    refine (Window.rect_emb_val win0_0 t (ix2 r 0) 1).trans ?_
    rw [(index_0 t).2]; rfl

/-- A score of point `t`, where its column is inside the scores. -/
theorem xblk_apply (r : Fin 256) (k : Fin 8192) (h : 8192 * (t.val % 13) + k.val < 100000) :
    xblk m c t (ix2 r k) = scores m c (ix2 (rowAt t r) ⟨8192 * (t.val % 13) + k.val, h⟩) := by
  have ht : t.val % 13 < 13 := Nat.mod_lt _ (by decide)
  have hk := k.isLt
  have hsize : win0_1.xsize (grid0.coords t) 0 = 256 ∧ k.val < win0_1.xsize (grid0.coords t) 1 := by
    by_cases h12 : t.val % 13 = 12
    · exact ⟨(xsize_last t h12).1, by rw [(xsize_last t h12).2]; omega⟩
    · exact ⟨(xsize_main t (by omega)).1, by rw [(xsize_main t (by omega)).2]; exact hk⟩
  have hm : win0_1.moved (grid0.coords t) (ix2 r k) = true := (win0_1.moved_iff _ _).mpr fun a => by
    match a with
    | ⟨0, _⟩ => exact lt_of_lt_of_eq r.isLt hsize.1.symm
    | ⟨1, _⟩ => exact hsize.2
  unfold xblk Window.fill
  rw [dif_pos hm]
  show V m c main_arg1 ((win0_1.rect t).emb _) = _
  rw [V_main_arg1]
  congr 1
  funext a
  apply Fin.ext
  match a with
  | ⟨0, _⟩ =>
    refine (Window.rect_emb_val win0_1 t _ 0).trans ?_
    rw [(index_1 t).1]; show t.val / 13 * 256 + r.val = 256 * (t.val / 13) + r.val; omega
  | ⟨1, _⟩ =>
    refine (Window.rect_emb_val win0_1 t _ 1).trans ?_
    rw [(index_1 t).2]; show t.val % 13 * 8192 + k.val = 8192 * (t.val % 13) + k.val; omega

/-- The scores a middle block's row holds, by column number, -/
theorem xblk_row (r : Fin 256) (k : Fin 8192) (h : t.val % 13 ≤ 11) :
    xblk m c t (ix2 r k) = scoreAt (scores m c) (rowAt t r) (8192 * (t.val % 13) + k.val) := by
  have hk := k.isLt
  rw [xblk_apply m c t r k (by omega), scoreAt, dif_pos]

/-- and those of the masked last block's. -/
theorem masked_row (r : Fin 256) (k : Fin 8192) (h : t.val % 13 = 12) :
    k0_pay12 (BitVec.ofNat 32 (grid0.coords t 1).val) (xblk m c t) (ix2 r k)
      = scoreAt (scores m c) (rowAt t r) (8192 * (t.val % 13) + k.val) := by
  rw [word_last t h, pay12_apply, mask_value]
  unfold scoreAt
  by_cases hk : k.val < 1696
  · rw [if_pos (show ((ix2 r k : S256x8192.Idx) 1).val < 1696 from hk), xblk_apply m c t r k (by omega), dif_pos]
  · rw [if_neg (show ¬((ix2 r k : S256x8192.Idx) 1).val < 1696 from hk), dif_neg (by omega)]

end Cert.KernelIdeal.Run

end
-- ==== Proof.KernelIdealValue.Array.lean ====
/-
  The region's result array: after the last column block of its row block, the scratch describes a whole row of the scores,
  and what the point writes back is the row's loss.
-/
module

public import proofs.«01_k».proof.Proof.KernelIdealValue.Read

@[expose] public section

set_option maxRecDepth 16384

noncomputable section

namespace Cert.KernelIdeal.Run

open Cert.KernelIdeal Cert.KernelIdeal.Gen Cert.LogSumExp
open Idealize.ShloMosaic Idealize.ShloMosaic.TcCoe
open Idealize.ShloMosaic.Pointwise
open Idealize.ShloMosaic.Pipeline (Window)

variable (m : (ℓ : Loc nD τ sig) → Buf (Elt Ideal) ℓ) (c : Dev nD)
variable (hfin : ∀ (R : Fin 2048) (k : Fin 100000), scores m c (ix2 R k) < ⊤)
include hfin

/-- No column of a row, inside or past the scores, holds +∞. -/
theorem sup_lt (R : Fin 2048) (S : Finset ℕ) : S.sup (scoreAt (scores m c) R) < ⊤ := by
  rw [Finset.sup_lt_iff bot_lt_top]
  intro k _
  unfold scoreAt
  split
  · exact hfin R _
  · exact bot_lt_top

/-- After point `n` the scratch describes the columns of its row block up to its own column block. -/
theorem holds_at (r : Fin 256) : ∀ (n : ℕ) (hn : n < cfg0.N),
    Holds r (scoreAt (scores m c) (rowAt ⟨n, hn⟩ r)) (acc m c (n + 1)) (Finset.range (8192 * (n % 13 + 1)))
      (tgt m c (ix2 0 (rowAt ⟨n, hn⟩ r))).toNat := by
  intro n
  induction n with
  | zero =>
    intro hn
    rw [← tblk_apply, show acc m c (0 + 1) = _ from acc_succ m c ⟨0, hn⟩]
    exact holds_first _ _ _ r _ 0 (by decide) (col_val _) (fun k => xblk_row m c ⟨0, hn⟩ r k (show 0 % 13 ≤ 11 by decide)) rfl
  | succ n ih =>
    intro hn
    have h13 : (n + 1) % 13 < 13 := Nat.mod_lt _ (by decide)
    rw [← tblk_apply, show acc m c (n + 1 + 1) = _ from acc_succ m c ⟨n + 1, hn⟩]
    unfold stepAt
    by_cases h0 : (n + 1) % 13 = 0
    · rw [if_pos h0]
      exact holds_first _ _ _ r _ _ h13 (col_val _) (fun k => xblk_row m c ⟨n + 1, hn⟩ r k (show (n + 1) % 13 ≤ 11 by omega)) h0
    · have ih' := ih (by omega)
      have hrow : rowAt ⟨n, by omega⟩ r = rowAt ⟨n + 1, hn⟩ r := Fin.ext (show 256 * (n / 13) + r.val = 256 * ((n + 1) / 13) + r.val by omega)
      rw [hrow, ← tblk_apply, show n % 13 + 1 = (n + 1) % 13 by omega] at ih'
      rw [if_neg h0]
      by_cases h12 : (n + 1) % 13 = 12
      · rw [if_pos h12, accLast_eq]
        exact holds_mid _ _ _ r _ _ h13 (col_val _) (fun k => masked_row m c ⟨n + 1, hn⟩ r k h12) _ ih' (sup_lt m c hfin _ _)
      · rw [if_neg h12]
        exact holds_mid _ _ _ r _ _ h13 (col_val _) (fun k => xblk_row m c ⟨n + 1, hn⟩ r k (show (n + 1) % 13 ≤ 11 by omega)) _ ih'
          (sup_lt m c hfin _ _)

/-- The rows' losses, as the region leaves them. -/
def losses (x : Vec Ideal S2048x100000 .f32) (w : Vec Ideal S1x2048 .i32) : Vec Ideal S2048x1 .f32 := fun y => rowLoss x w (y 0)

/-- The region's result array after the run. -/
theorem result_array : (dats m 0 c).arrAt 2 cfg0.N = losses (scores m c) (tgt m c) := by
  refine (dats m 0 c).arrAt_eq_of_covers 2 _ (by decide +kernel) fun t hf y => ?_
  have h12 : t.val % 13 = 12 :=
    (by decide +kernel : ∀ t : Fin grid0.N, win0_2.flush t = true → t.val % 13 = 12) t hf
  rw [after_2]
  have he : ((win0_2.rect t).emb y 0 : Nat) = 256 * (t.val / 13) + (y 0).val := by
    refine (Window.rect_emb_val win0_2 t y 0).trans ?_
    rw [(index_2 t).1]; show t.val / 13 * 256 + (y 0).val = _; omega
  have hy : win0_2.xinj (grid0.coords t) y = ix2 (⟨(y 0).val, (y 0).isLt⟩ : Fin 256) 0 := by
    funext a
    match a with
    | ⟨0, _⟩ => rfl
    | ⟨1, _⟩ => exact Fin.ext (Nat.lt_one_iff.mp (y 1).isLt)
  have hs := holds_at m c hfin (⟨(y 0).val, (y 0).isLt⟩ : Fin 256) t.val t.isLt
  rw [h12] at hs
  show outOf (acc m c (t.val + 1)) (win0_2.xinj (grid0.coords t) y) = rowLoss _ _ ((win0_2.rect t).emb y 0)
  rw [hy, outOf_holds _ _ _ _ _ hs, show (win0_2.rect t).emb y 0 = rowAt t ⟨(y 0).val, (y 0).isLt⟩ from Fin.ext he]
  rfl

end Cert.KernelIdeal.Run

end
-- ==== Proof.KernelIdealValue.Run.lean ====
/-
  The whole program's run, its result named: the host's mean of the rows' losses.
-/
module

public import proofs.«01_k».proof.Proof.KernelIdealValue.Array
public import Idealize.ShloMosaic.Lib.Claim

@[expose] public section

set_option maxRecDepth 16384

noncomputable section

namespace Cert.KernelIdeal.Run

open Cert.KernelIdeal Cert.KernelIdeal.Gen Cert.LogSumExp
open Idealize.ShloMosaic Idealize.ShloMosaic.TcCoe Idealize.SL.Sem
open Idealize.ShloMosaic.Pointwise
open Facts

variable (m : (ℓ : Loc nD τ sig) → Buf (Elt Ideal) ℓ) (ρ : Dev nD → PrngReg)
variable (hfin : ∀ (c : Dev nD) (R : Fin 2048) (k : Fin 100000), scores m c (ix2 R k) < ⊤)

/-- The result: the mean of the rows' losses, as the host lines after the region compute it. -/
def result (c : Dev nD) : FVec Ideal S_ .f32 :=
  Host.divf (Host.reduceAdd (losses (scores m c) (tgt m c) : FVec Ideal S2048x1 .f32) (constant S_ .f32 0x00000000#32) reducesTo_S2048x1_S_d0_1 h_S_)
    (constant S_ .f32 0x45000000#32)

include hfin

/-- The host lines after the region, from the region's result array. -/
theorem tail_result (c : Dev nD) : Pipeline.afterTail₀ cfgs (dats m) 0 (V0 m) [hostOps1] c main_v3 = result m c := by
  unfold Pipeline.afterTail₀ result
  simp only [hostOps1, List.flatten_cons, List.flatten_nil, List.append_nil]
  after_results
  exact congrArg (fun v : FVec Ideal S2048x1 .f32 => Host.divf (Host.reduceAdd v (constant S_ .f32 0x00000000#32) reducesTo_S2048x1_S_d0_1 h_S_)
    (constant S_ .f32 0x45000000#32))
    ((Pipeline.withArrays_arr spec0 (by decide) c (V0 m c) _ 2).trans (result_array m c (hfin c)))

/-- The run, its result named and its arguments unchanged. -/
theorem run_value : θ_run defs (onTc (τ := τ) (main (F := Ideal))) ⟨m, fun _ => 0, ρ⟩ (fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun r h c => ⟨((h.1 c).2 main_v3 (Pipeline.mem_restRefs_of main_v3 (by decide) (by decide))).trans
      (tail_result m hfin c),
    ((h.1 c).2 main_arg0 (Pipeline.mem_restRefs_of main_arg0 (by decide) (by decide))).trans (W_main_arg0 m (dats m) c),
    ((h.1 c).1 1).trans (((dats m 0 c).arrAt_in 1 rfl _).trans ((A_eq m c 1).trans (V_main_arg1 m c)))⟩) (run_main m ρ)

end Cert.KernelIdeal.Run

end
-- ==== Proof.Reduce.lean ====
/-
  Operations read at an index, over shapes of any extents: the host's two reductions along a row of a matrix, and the
  operations that act element by element.
-/
module

public import Idealize.ShloMosaic.Lib.Pointwise

@[expose] public section

noncomputable section

namespace Cert.LogSumExp

open Idealize.ShloMosaic Idealize.ShloMosaic.Pointwise

variable {n m : ℕ} {u : Shape} (x : FVec Ideal ⟨2, ![n, m]⟩ .f32) (v : FVec Ideal u .f32)
  (h : (⟨2, ![n, m]⟩ : Shape).ReducesTo [1] ⟨1, ![n]⟩) (hu : 0 < u.numel) (R : Fin n)

/-- The largest entry of a row. -/
theorem reduce_max_row : Host.reduce FloatOps.maximumf x v h hu (ix1 R)
    = Finset.univ.fold max (v (Shape.Idx.first hu)) fun k : Fin m => x (ix2 R k) := by
  pointwise

/-- The sum of a row. -/
theorem reduce_add_row : Host.reduceAdd x v h hu (ix1 R) = v (Shape.Idx.first hu) + ∑ k : Fin m, x (ix2 R k) := by
  pointwise

/-- The sum of a matrix of one column, and that of a vector. -/
theorem reduce_add_column (x : FVec Ideal ⟨2, ![n, 1]⟩ .f32) (h : (⟨2, ![n, 1]⟩ : Shape).ReducesTo [0, 1] ⟨0, ![]⟩) (j : (⟨0, ![]⟩ : Shape).Idx) :
    Host.reduceAdd x v h hu j = v (Shape.Idx.first hu) + ∑ R : Fin n, x (ix2 R 0) := by
  pointwise
  exact congrArg _ (Finset.sum_congr rfl fun R _ => Fin.sum_univ_one _)
theorem reduce_add_vector (x : FVec Ideal ⟨1, ![n]⟩ .f32) (h : (⟨1, ![n]⟩ : Shape).ReducesTo [0] ⟨0, ![]⟩) (j : (⟨0, ![]⟩ : Shape).Idx) :
    Host.reduceAdd x v h hu j = v (Shape.Idx.first hu) + ∑ R : Fin n, x (ix1 R) := by
  pointwise

section
variable {s : Shape} (a b : FVec Ideal s .f32) (i k : IVec s 32) (c d : IVec s 1) (j : s.Idx)

/-! The operations that act element by element. -/

theorem and_at : andi c d j = IntOp.andi (c j) (d j) := rfl
theorem cmpi_at (p : CmpIPredicate) : cmpi p i k j = IntOp.cmpi p (i j) (k j) := rfl
theorem cmpf_at (p : CmpFPredicate) : cmpf p a b j = FloatOps.cmpf p (a j) (b j) := rfl
theorem sub_at : subf a b j = (a j - b j : EReal) := rfl
theorem max_at : maximumf a b j = (max (a j) (b j) : EReal) := rfl
theorem exp_at : Host.exp a j = Ideal.exp (a j) := rfl
theorem log_at : Host.log a j = Ideal.log (a j) := rfl
theorem neg_at : Host.negf a j = (-(a j) : EReal) := rfl
theorem constant_at (v : BitVec 32) : constant (F := Ideal) s .f32 v j = Ideal.ofBits .f32 v := rfl
theorem select_at {α : Type} (x y : s.Idx → α) : select c x y j = Scalar.select (c j) (x j) (y j) := rfl
end

end Cert.LogSumExp

end
-- ==== Proof.Pre.lean ====
/-
  The precondition read row by row: the target's word is a column number of the scores, and the row's largest score is a
  real number.
-/
module

public import proofs.«01_k».proof.Pre_target_in_range_row_max_finite
public import proofs.«01_k».proof.Proof.Row
public import proofs.«01_k».proof.Proof.Reduce
public import Idealize.ShloMosaic.Lib.Affine

@[expose] public section

set_option maxRecDepth 16384

noncomputable section

namespace Cert.LogSumExp

open Idealize.ShloMosaic Idealize.ShloMosaic.Pointwise
open Cert.Pre_target_in_range_row_max_finite

/-- The precondition's shapes are as its operations take them. -/
theorem pre_facts : Cert.Pre_target_in_range_row_max_finite.Facts := ⟨by decide, by decide, by decide, by decide⟩

/-- The pattern of +∞ is +∞. -/
theorem ofBits_pos_inf : Ideal.ofBits .f32 0x7F800000#32 = ⊤ := by simp [Ideal.ofBits, Ideal.ieee]

/-- The largest score of a row, by column number. -/
theorem fold_scores (x : S2048x100000.Idx → EReal) (R : Fin 2048) :
    (Finset.univ.fold max ⊥ fun k : Fin 100000 => x (ix2 R k)) = (Finset.range 100000).sup (scoreAt x R) := by
  rw [show (Finset.univ.fold max ⊥ fun k : Fin 100000 => x (ix2 R k)) = Finset.univ.sup fun k : Fin 100000 => x (ix2 R k) from rfl]
  apply le_antisymm
  · refine Finset.sup_le fun k _ => ?_
    refine le_trans (le_of_eq ?_) (Finset.le_sup (f := scoreAt x R) (Finset.mem_range.mpr k.isLt))
    unfold scoreAt
    rw [dif_pos k.isLt]
  · refine Finset.sup_le fun c hc => ?_
    unfold scoreAt
    rw [dif_pos (Finset.mem_range.mp hc)]
    exact Finset.le_sup (f := fun k : Fin 100000 => x (ix2 R k)) (Finset.mem_univ _)

/-- The flattened targets at a row. -/
theorem word_apply (w : IVec S1x2048 32) (h : S1x2048.ShapeCasts S2048) (R : Fin 2048) : shapeCast S2048 w h (ix1 R) = w (ix2 0 R) := by
  pointwise

/-- The float comparisons of the precondition are the order's. -/
theorem gt_one (a b : EReal) : FloatOps.cmpf (F := Ideal) (φ := .f32) .ogt a b = 1#1 ↔ b < a := by
  show BitVec.ofBool (decide (b < a)) = 1#1 ↔ b < a
  by_cases h : b < a <;> simp [h]
theorem lt_one (a b : EReal) : FloatOps.cmpf (F := Ideal) (φ := .f32) .olt a b = 1#1 ↔ a < b := by
  show BitVec.ofBool (decide (a < b)) = 1#1 ↔ a < b
  by_cases h : a < b <;> simp [h]

/-- A constant of any bit pattern, at any index of any shape. -/
theorem splat_apply {t : Shape} (h : S_.BroadcastsInDim t ![]) (b : BitVec 32) (j : t.Idx) :
    broadcastInDim t ![] h (constant (F := Ideal) S_ .f32 b) j = Ideal.ofBits .f32 b := rfl
theorem splatI_apply {t : Shape} (h : S_.BroadcastsInDim t ![]) (b : BitVec 32) (j : t.Idx) :
    broadcastInDim t ![] h (constantI S_ 32 b) j = b := rfl

/-- A word between 0 and 100000 as a number. -/
theorem toNat_lt (v : BitVec 32) (h0 : (0#32).toInt ≤ v.toInt) (h1 : v.toInt < (100000#32).toInt) : v.toNat < 100000 := by
  rw [show (0#32).toInt = 0 by decide] at h0
  rw [show (100000#32).toInt = 100000 by decide] at h1
  have hv := v.isLt
  rw [BitVec.toInt_eq_toNat_cond] at h0 h1
  split at h0 <;> omega

/-- A row's loss, where its target is inside the scores and its largest score a real number: the negated log-probability
    of the target. The columns past the last one change nothing. -/
theorem rowLoss_eq (w : IVec S1x2048 32) (x : FVec Ideal S2048x100000 .f32) (R : Fin 2048) (ht : (w (ix2 0 R)).toNat < 100000)
    (hlo : ⊥ < (Finset.range 100000).sup (scoreAt x R)) (hhi : (Finset.range 100000).sup (scoreAt x R) < ⊤) :
    rowLoss x w R = -(x (ix2 R ⟨(w (ix2 0 R)).toNat, ht⟩) - (Finset.range 100000).sup (scoreAt x R)
      - Ideal.log (mass (Finset.range 100000) (scoreAt x R))) := by
  have hsub : Finset.range 100000 ⊆ Finset.range (8192 * 13) := Finset.range_subset_range.mpr (by decide)
  have hout : ∀ c ∈ Finset.range (8192 * 13), c ∉ Finset.range 100000 → scoreAt x R c = ⊥ := fun c _ hc =>
    dif_neg fun h => hc (Finset.mem_range.mpr h)
  have hmem : (w (ix2 0 R)).toNat ∈ Finset.range 100000 := Finset.mem_range.mpr ht
  have hM : (Finset.range 100000).sup (scoreAt x R) = (((Finset.range 100000).sup (scoreAt x R)).toReal : EReal) :=
    (EReal.coe_toReal hhi.ne hlo.ne').symm
  have hat : scoreAt x R (w (ix2 0 R)).toNat = x (ix2 R ⟨(w (ix2 0 R)).toNat, ht⟩) := dif_pos ht
  rw [← hat, ← loss_eq _ _ _ hM hmem]
  unfold rowLoss loss
  rw [sup_pad _ _ _ hsub hout, mass_pad _ _ _ hsub hout, pick_mem _ _ _ hmem, pick_mem _ _ _ (hsub hmem)]

variable [Cert.Pre_target_in_range_row_max_finite.Facts]

/-- The precondition at row `R`. -/
theorem pre_row (w : IVec S1x2048 32) (x : FVec Ideal S2048x100000 .f32) (h : fn (F := Ideal) w x = fun _ => 1#1) (R : Fin 2048) :
    (w (ix2 0 R)).toNat < 100000 ∧ ⊥ < (Finset.range 100000).sup (scoreAt x R) ∧ (Finset.range 100000).sup (scoreAt x R) < ⊤ := by
  have h' := congrFun h (ix1 R)
  dsimp only [fn] at h'
  generalize hr : Host.reduce _ _ _ _ _ = top at h'
  have ht : top (ix1 R) = (Finset.range 100000).sup (scoreAt x R) := by
    rw [← hr, reduce_max_row, ← fold_scores]
    exact congrArg (fun b => Finset.univ.fold max b fun k : Fin 100000 => x (ix2 R k)) ofBits_neg_inf
  rw [and_at, and_at, and_at, cmpi_at, cmpi_at, cmpf_at, cmpf_at, word_apply, IntOp.andi_eq_one, IntOp.andi_eq_one, IntOp.andi_eq_one,
    IntOp.cmpi_sge, IntOp.cmpi_slt, gt_one, lt_one, splat_apply, splat_apply, splatI_apply, splatI_apply, ofBits_neg_inf, ofBits_pos_inf, ht] at h'
  exact ⟨toNat_lt _ h'.1.1.1 h'.1.1.2, h'.1.2, h'.2⟩

end Cert.LogSumExp

end
-- ==== Proof.ReferenceValue.lean ====
/-
  The reference at the ideal floats, read row by row: its log-softmax at an index, its gather along the row, and its row
  losses under the precondition's two facts.
-/
module

public import proofs.«01_k».proof.Proof.Gen.ReferenceIdeal.Run
public import proofs.«01_k».proof.Proof.Pre
public import Idealize.ShloMosaic.Lib.ReduceAll

@[expose] public section

set_option maxRecDepth 16384

noncomputable section

namespace Cert.ReferenceIdeal.Value

open Cert.ReferenceIdeal Cert.ReferenceIdeal.Gen Cert.LogSumExp
open Idealize.ShloMosaic Idealize.ShloMosaic.Pointwise

variable (w : IVec S1x2048 32) (x : FVec Ideal S2048x100000 .f32) (R : Fin 2048)

/-- The targets as a column. -/
def column : IVec S2048x1 32 := broadcastInDim S2048x1 ![0] bcast_S2048_S2048x1_0 (shapeCast _ w shapeCasts_S1x2048_S2048)

/-- The gather's indices: the targets, a negative one taken from the row's end. -/
def indices : IVec S2048x1x1 32 :=
  shapeCast _ (select (cmpi .slt (column w) (broadcastInDim S2048x1 ![] bcast_S_S2048x1 (constantI S_ 32 0#32)))
    (addi (column w) (broadcastInDim S2048x1 ![] bcast_S_S2048x1 (constantI S_ 32 100000#32))) (column w)) shapeCasts_S2048x1_S2048x1x1

/-- Whether each row's index is a column number. -/
def inside : IVec S2048x1 1 :=
  Host.reduce IntOp.andi (andi (cmpi .sge (indices w) (broadcastInDim S2048x1x1 ![] bcast_S_S2048x1x1 (constantI S_ 32 0#32)))
    (cmpi .sle (indices w) (broadcastInDim S2048x1x1 ![0, 1, 2] bcast_S1x1x1_S2048x1x1_0_1_2
      (broadcastInDim S1x1x1 ![2] bcast_S1_S1x1x1_2 (constantI S1 32 99999#32))))) (constantI S_ 1 1#1) reducesTo_S2048x1x1_S2048x1_d2 h_S_

/-- The scores less their row's largest. -/
def shifted : FVec Ideal S2048x100000 .f32 :=
  subf x (broadcastInDim S2048x100000 ![0, 1] bcast_S2048x1_S2048x100000_0_1 (broadcastInDim S2048x1 ![0] bcast_S2048_S2048x1_0
    (maximumf (broadcastInDim S2048 ![] bcast_S_S2048 (constant S_ .f32 0xFF800000#32))
      (Host.reduce FloatOps.maximumf x (constant S_ .f32 0xFF800000#32) reducesTo_S2048x100000_S2048_d1 h_S_))))

/-- The log-softmax of the rows. -/
def logp : FVec Ideal S2048x100000 .f32 :=
  subf (shifted x) (broadcastInDim S2048x100000 ![0, 1] bcast_S2048x1_S2048x100000_0_1 (Host.log (broadcastInDim S2048x1 ![0] bcast_S2048_S2048x1_0
    (Host.reduceAdd (Host.exp (shifted x)) (constant S_ .f32 0x00000000#32) reducesTo_S2048x100000_S2048_d1 h_S_))))

/-- The rows' losses. -/
def rows : FVec Ideal S2048 .f32 :=
  Host.negf (shapeCast _ (select (inside w) (Host.gather gather_S2048x100000_S2048x1x1_S2048x1_n_1_0_0_1_2_11 (logp x) (indices w))
    (broadcastInDim S2048x1 ![] bcast_S_S2048x1 (constant S_ .f32 0x7FC00000#32))) shapeCasts_S2048x1_S2048)

theorem column_apply : column w (ix2 R 0) = w (ix2 0 R) := by
  unfold column
  pointwise

/-- A row's value spread over a column, and a column's over the matrix. -/
theorem spread_column (v : FVec Ideal S2048 .f32) : broadcastInDim S2048x1 ![0] bcast_S2048_S2048x1_0 v (ix2 R 0) = v (ix1 R) := by
  pointwise
theorem spread_row (v : FVec Ideal S2048x1 .f32) (k : Fin 100000) :
    broadcastInDim S2048x100000 ![0, 1] bcast_S2048x1_S2048x100000_0_1 v (ix2 R k) = v (ix2 R 0) := by
  pointwise

theorem shifted_apply (k : Fin 100000) : shifted x (ix2 R k) = (x (ix2 R k) - (Finset.range 100000).sup (scoreAt x R) : EReal) := by
  unfold shifted
  rw [sub_at, spread_row, spread_column, max_at, reduce_max_row, splat_apply, constant_at, ofBits_neg_inf, fold_scores, max_eq_right bot_le]

theorem logp_apply (k : Fin 100000) : logp x (ix2 R k)
    = (x (ix2 R k) - (Finset.range 100000).sup (scoreAt x R) - Ideal.log (mass (Finset.range 100000) (scoreAt x R)) : EReal) := by
  unfold logp
  rw [sub_at, shifted_apply, spread_row, log_at, spread_column, reduce_add_row, constant_at]
  refine congrArg (fun z : EReal => x (ix2 R k) - (Finset.range 100000).sup (scoreAt x R) - Ideal.log z) ?_
  rw [show Ideal.ofBits .f32 0x00000000#32 = 0 from by simp [Ideal.ofBits, Ideal.ieee], zero_add]
  unfold mass
  rw [Finset.sum_range]
  refine Finset.sum_congr rfl fun k _ => ?_
  rw [exp_at, shifted_apply, scoreAt, dif_pos k.isLt]

section
variable (h : (w (ix2 0 R)).toNat < 100000)
include h

/-- The word of a target inside the scores, as a signed number. -/
theorem word_toInt : (w (ix2 0 R)).toInt = (w (ix2 0 R)).toNat := BitVec.toInt_eq_toNat_of_lt (by omega)

/-- A target inside the scores is its own index. -/
theorem indices_apply : indices w (ix3 R 0 0) = w (ix2 0 R) := by
  unfold indices
  pointwise
  rw [column_apply]
  refine if_neg fun e => ?_
  have e' := IntOp.cmpi_slt.mp e
  rw [word_toInt w R h, show (0#32).toInt = 0 by decide] at e'
  omega

/-- So it is found inside. -/
theorem inside_apply : inside w (ix2 R 0) = 1#1 := by
  unfold inside
  pointwise
  rw [Finset.univ_unique, Finset.fold_singleton]
  show IntOp.andi (IntOp.andi (IntOp.cmpi .sge (indices w (ix3 R 0 0)) 0#32) (IntOp.cmpi .sle (indices w (ix3 R 0 0)) 99999#32)) 1#1 = 1#1
  rw [indices_apply w R h, IntOp.andi_eq_one, IntOp.andi_eq_one, IntOp.cmpi_sge, IntOp.cmpi_sle, word_toInt w R h,
    show (0#32).toInt = 0 by decide, show (99999#32).toInt = 99999 by decide]
  exact ⟨⟨by omega, by omega⟩, rfl⟩

end

/-- The gather of a row reads it at the row's index. -/
theorem gather_apply (y : FVec Ideal S2048x100000 .f32) (i : IVec S2048x1x1 32) (h : (i (ix3 R 0 0)).toNat < 100000) :
    Host.gather gather_S2048x100000_S2048x1x1_S2048x1_n_1_0_0_1_2_11 y i (ix2 R 0) = y (ix2 R ⟨(i (ix3 R 0 0)).toNat, h⟩) := by
  unfold Host.gather
  congr 1
  funext a
  apply Fin.ext
  show GatherDims.start _ (ix2 R 0) i a + GatherDims.batchCoord _ (ix2 R 0) a + GatherDims.offCoord _ (ix2 R 0) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ fun e => ((GatherDims.mem_sKept _ _).mp e).2 (List.mem_singleton.mpr rfl), GatherDims.batchCoord,
      dif_pos (show (0 : Fin 2) ∈ gather_S2048x100000_S2048x1x1_S2048x1_n_1_0_0_1_2_11.operandBatchingDims from List.mem_singleton.mpr rfl)]
    show 0 + R.val + 0 = R.val
    omega
  · rw [GatherDims.batchCoord_eq_zero _ _ _ fun e => absurd (List.mem_singleton.mp e) (by decide),
      GatherDims.offCoord_eq_zero _ _ _ fun e => ((GatherDims.mem_sKept _ _).mp e).1 (List.mem_singleton.mpr rfl), GatherDims.start,
      dif_pos (show (1 : Fin 2) ∈ gather_S2048x100000_S2048x1x1_S2048x1_n_1_0_0_1_2_11.startIndexMap from List.mem_singleton.mpr rfl)]
    have hsi : ∀ p, gather_S2048x100000_S2048x1x1_S2048x1_n_1_0_0_1_2_11.siIdx (ix2 R 0) p = ix3 R 0 0 := fun p => by
      funext b
      apply Fin.ext
      match b with
      | ⟨0, _⟩ => rfl
      | ⟨1, _⟩ => rfl
      | ⟨2, _⟩ => exact Nat.lt_one_iff.mp (Fin.isLt _)
    rw [hsi, BitVec.toInt_eq_toNat_of_lt (by omega)]
    show min (i (ix3 R 0 0)).toNat (100000 - 1) + 0 + 0 = (i (ix3 R 0 0)).toNat
    omega

/-- A row's loss, where its target is inside the scores and its largest score a real number. -/
theorem rows_apply (ht : (w (ix2 0 R)).toNat < 100000) (hlo : ⊥ < (Finset.range 100000).sup (scoreAt x R))
    (hhi : (Finset.range 100000).sup (scoreAt x R) < ⊤) : rows w x (ix1 R) = rowLoss x w R := by
  have hcast : ∀ v : FVec Ideal S2048x1 .f32, shapeCast S2048 v shapeCasts_S2048x1_S2048 (ix1 R) = v (ix2 R 0) := fun v => by pointwise
  have hi : (indices w (ix3 R 0 0)).toNat < 100000 := by rw [indices_apply w R ht]; exact ht
  unfold rows
  rw [neg_at, hcast, select_at, inside_apply w R ht, gather_apply R _ _ hi, logp_apply, rowLoss_eq w x R ht hlo hhi]
  simp only [indices_apply w R ht]
  rfl

end Cert.ReferenceIdeal.Value

end
-- ==== Proof.Equal.lean ====
/-
  The two programs' results are one mean: the row losses the kernel sums are the reference's, under the precondition.
-/
module

public import proofs.«01_k».proof.Proof.KernelIdealValue.Run
public import proofs.«01_k».proof.Proof.ReferenceValue

@[expose] public section

set_option maxRecDepth 16384

noncomputable section

namespace Cert.LogSumExp

open Idealize.ShloMosaic Idealize.ShloMosaic.Pointwise Idealize.ShloMosaic.TcCoe
open Cert.Pre_target_in_range_row_max_finite (S1x2048 S2048x100000 S_)

variable [Cert.Pre_target_in_range_row_max_finite.Facts] (w : IVec S1x2048 32) (x : FVec Ideal S2048x100000 .f32)
  (h : Cert.Pre_target_in_range_row_max_finite.fn (F := Ideal) w x = fun _ => 1#1)
include h

/-- No score is +∞. -/
theorem score_lt (R : Fin 2048) (k : Fin 100000) : x (ix2 R k) < ⊤ := by
  have e : scoreAt x R k.val = x (ix2 R k) := dif_pos k.isLt
  rw [← e]
  exact lt_of_le_of_lt (Finset.le_sup (Finset.mem_range.mpr k.isLt)) (pre_row w x h R).2.2

/-- The reference's result over the row losses is the kernel's. -/
theorem means_eq (c d : FVec Ideal S_ .f32) :
    Host.divf (Host.reduceAdd (Cert.ReferenceIdeal.Value.rows w x) c Cert.ReferenceIdeal.Gen.reducesTo_S2048_S_d0 Cert.ReferenceIdeal.Gen.h_S_) d
      = Host.divf (Host.reduceAdd (Cert.KernelIdeal.Run.losses x w : FVec Ideal ⟨2, ![2048, 1]⟩ .f32) c
          Cert.KernelIdeal.Gen.reducesTo_S2048x1_S_d0_1 Cert.KernelIdeal.Gen.h_S_) d := by
  refine congrArg (fun v => Host.divf v d) (funext fun j => ?_)
  rw [reduce_add_vector, reduce_add_column]
  refine congrArg _ (Finset.sum_congr rfl fun R _ => ?_)
  obtain ⟨ht, hlo, hhi⟩ := pre_row w x h R
  exact Cert.ReferenceIdeal.Value.rows_apply w x R ht hlo hhi

end Cert.LogSumExp

end
-- ==== Proof.lean ====
/-
  The certificate's claims, each from the module that proves it.
-/
module

public import proofs.«01_k».proof.Defs
public import proofs.«01_k».proof.Proof.KernelRun.Launch
public import proofs.«01_k».proof.Proof.Equal
public import proofs.«01_k».proof.Proof.Gen.ReferenceIdeal.Run

@[expose] public section

noncomputable section

namespace Cert.Proof

open Idealize.ShloMosaic Idealize.SL.Sem

theorem frame_p : Cert.quiescent_Kernel := fun m ρ _ => Cert.Kernel.Run.frame m ρ

theorem frame_pi : Cert.quiescent_KernelIdeal := fun m ρ _ => Cert.KernelIdeal.Run.frame m ρ

theorem frame_ri : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The one constant read at its intended value: the mask is -∞. -/
theorem preserves : Cert.preserves_Kernel_KernelIdeal :=
  IdealRules.named_const.statement Cert.KernelIdeal.κ "mask" .f32 0xF149F2CA#32 ⊥ rfl

/-- On arguments that meet the precondition the two programs leave the same mean. -/
theorem algebraic : Cert.algebraic_KernelIdeal_ReferenceIdeal_pre_target_in_range_row_max_finite
    (hPre_target_in_range_row_max_finite := Cert.LogSumExp.pre_facts) := by
  letI := Cert.LogSumExp.pre_facts
  intro m ρ m' ρ' hpre hagree
  refine ⟨_, Cert.KernelIdeal.Run.run_value m ρ fun c => Cert.LogSumExp.score_lt _ _ (hpre c), ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.LogSumExp.means_eq _ _ (hpre c) _ _

theorem claim : Cert.Claim :=
  ⟨Cert.Kernel.Gen.facts, Cert.KernelIdeal.Gen.facts, Cert.ReferenceIdeal.Gen.facts, Cert.LogSumExp.pre_facts, frame_p, frame_pi,
    fun m ρ _ => Cert.KernelIdeal.Run.frame m ρ, frame_ri, fun m ρ _ => frame_ri m ρ trivial, preserves, algebraic⟩

end Cert.Proof

end
